-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S4096x20x1024 : Shape := ⟨3, ![4096, 20, 1024]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x20x1024 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 10#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S4096x20x1024 : Shape := ⟨3, ![4096, 20, 1024]⟩
abbrev S4096 : Shape := ⟨1, ![4096]⟩
abbrev S4096x20x8x128 : Shape := ⟨4, ![4096, 20, 8, 128]⟩
abbrev S10x8x128 : Shape := ⟨3, ![10, 8, 128]⟩
abbrev S8x128 : Shape := ⟨2, ![8, 128]⟩
abbrev S10x1024 : Shape := ⟨2, ![10, 1024]⟩
abbrev S1024x10 : Shape := ⟨2, ![1024, 10]⟩
abbrev S1024 : Shape := ⟨1, ![1024]⟩
abbrev S128x20x8x128 : Shape := ⟨4, ![128, 20, 8, 128]⟩
abbrev S128x8x128 : Shape := ⟨3, ![128, 8, 128]⟩
abbrev S10 : Shape := ⟨1, ![10]⟩
abbrev S1 : Shape := ⟨1, ![1]⟩
abbrev S128x1x8x128 : Shape := ⟨4, ![128, 1, 8, 128]⟩
abbrev S1x8x128 : Shape := ⟨3, ![1, 8, 128]⟩

abbrev nBuf : Space → Nat
  | .hbm => 7
  | .vmem => 6
  | .smem => 2
  | _ => 0

abbrev bufTy : (tb : Table) → Fin (tcTables nBuf tb) → BufTy
  | .hbm, ⟨0, _⟩ => ⟨S4096x20x1024, .f32⟩
  | .hbm, ⟨1, _⟩ => ⟨S4096x20x8x128, .f32⟩
  | .hbm, ⟨2, _⟩ => ⟨S10x8x128, .f32⟩
  | .hbm, ⟨3, _⟩ => ⟨S8x128, .i32⟩
  | .hbm, ⟨4, _⟩ => ⟨S10x1024, .f32⟩
  | .hbm, ⟨5, _⟩ => ⟨S1024x10, .f32⟩
  | .hbm, ⟨6, _⟩ => ⟨S1024, .i32⟩
  | .local _ .vmem, ⟨0, _⟩ => ⟨S128x20x8x128, .f32⟩
  | .local _ .vmem, ⟨1, _⟩ => ⟨S128x20x8x128, .f32⟩
  | .local _ .vmem, ⟨2, _⟩ => ⟨S10x8x128, .f32⟩
  | .local _ .vmem, ⟨3, _⟩ => ⟨S8x128, .i32⟩
  | .local _ .vmem, ⟨4, _⟩ => ⟨S10x8x128, .f32⟩
  | .local _ .vmem, ⟨5, _⟩ => ⟨S128x8x128, .f32⟩
  | .local _ .smem, ⟨0, _⟩ => ⟨S4096, .i32⟩
  | .local _ .smem, ⟨1, _⟩ => ⟨S10, .i32⟩
  | _, _ => ⟨S4096x20x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_call0_v1_1 : Ref sig .tc := ⟨.hbm, 3, rfl⟩
abbrev main_call0_v2 : Ref sig .tc := ⟨.hbm, 4, rfl⟩
abbrev main_v0_1 : Ref sig .tc := ⟨.hbm, 5, rfl⟩
abbrev main_v0_0 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_64 : BitVec 32 := 0#32
  let c128_i32 : BitVec 32 := 128#32
  let v65 : BitVec 32 := Scalar.addi c0_i32_64 c128_i32
  let c1_i32 : BitVec 32 := 1#32
  ⟨c0_i32_64, v65, c1_i32⟩
def k0_off1 (i : grid0.Coords) (k0_t1 : Fin k0_t1_loop.trips) : Fin 1 → Nat :=
  let arg0 : BitVec 32 := BitVec.ofNat 32 (i 0).val
  let c128_i32_67 : BitVec 32 := 128#32
  let v69 : BitVec 32 := Scalar.muli arg0 c128_i32_67
  let c0_i32_64 : BitVec 32 := 0#32
  let c1_i32 : BitVec 32 := 1#32
  let arg8 : BitVec 32 := Scf.iv c0_i32_64 c1_i32 k0_t1
  let v70 : BitVec 32 := Scalar.addi v69 arg8
  let v71 : Index := Scalar.indexCast v70
  ![v71.toNat]
def k0_off2 (v72 : BitVec 32) : Fin 3 → Nat :=
  let v73 : Index := Scalar.indexCast v72
  let c0_68 : Index := 0#32
  let c0_69 : Index := 0#32
  ![v73.toNat, 0, 0]

def k0_off3 (k0_t1 : Fin k0_t1_loop.trips) : Fin 3 → Nat :=
  let c0_i32_64 : BitVec 32 := 0#32
  let c1_i32 : BitVec 32 := 1#32
  let arg8 : BitVec 32 := Scf.iv c0_i32_64 c1_i32 k0_t1
  let v76 : Index := Scalar.indexCast arg8
  let c0_70 : Index := 0#32
  let c0_71 : Index := 0#32
  ![v76.toNat, 0, 0]
def k0_off4 (v72 : BitVec 32) : Fin 1 → Nat :=
  let v84 : Index := Scalar.indexCast v72
  ![v84.toNat]

def k0_chk1 (v72 : BitVec 32) : Prop :=
  (∀ a, (k0_off2 v72) a + S1x8x128.size a ≤ S10x8x128.size a) ∧
  (∀ a, (k0_off4 v72) a + S1.size a ≤ S10.size a)
theorem k0_off2_inb : ∀ (v72 : BitVec 32) (k0_hw1 : k0_chk1 v72), ∀ a, (k0_off2 v72) a + S1x8x128.size a ≤ S10x8x128.size a := fun v72 k0_hw1 => k0_hw1.1
theorem k0_off4_inb : ∀ (v72 : BitVec 32) (k0_hw1 : k0_chk1 v72), ∀ a, (k0_off4 v72) a + S1.size a ≤ S10.size a := fun v72 k0_hw1 => k0_hw1.2

def k0_cond2 (i : grid0.Coords) : BitVec 1 :=
  let arg0 : BitVec 32 := BitVec.ofNat 32 (i 0).val
  let c31_i32 : BitVec 32 := 31#32
  let v66 : BitVec 1 := Scalar.cmpi .eq arg0 c31_i32
  let v67 : BitVec 32 := Scalar.extui v66
  let c0_i32_66 : BitVec 32 := 0#32
  let v68 : BitVec 1 := Scalar.cmpi .ne v67 c0_i32_66
  v68

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x20x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x20x1024 : Shape := ⟨3, ![4096, 20, 1024]⟩
abbrev S4096 : Shape := ⟨1, ![4096]⟩
abbrev S_ : Shape := ⟨0, ![]⟩
abbrev S4096x1024 : Shape := ⟨2, ![4096, 1024]⟩
abbrev S10x1024 : Shape := ⟨2, ![10, 1024]⟩
abbrev S4096x1 : Shape := ⟨2, ![4096, 1]⟩
abbrev S10 : Shape := ⟨1, ![10]⟩
abbrev S10x1 : Shape := ⟨2, ![10, 1]⟩
abbrev S1024x10 : Shape := ⟨2, ![1024, 10]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x20x1024, .f32⟩
  | .hbm, ⟨1, _⟩ => ⟨S4096, .i32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S10x1024, .f32⟩
  | .hbm, ⟨6, _⟩ => ⟨S4096x1, .i32⟩
  | .hbm, ⟨7, _⟩ => ⟨S10x1024, .f32⟩
  | .hbm, ⟨8, _⟩ => ⟨S_, .i32⟩
  | .hbm, ⟨9, _⟩ => ⟨S10, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S_, .i32⟩
  | .hbm, ⟨23, _⟩ => ⟨S4096, .i32⟩
  | .hbm, ⟨24, _⟩ => ⟨S10, .i32⟩
  | .hbm, ⟨25, _⟩ => ⟨S10, .f32⟩
  | .hbm, ⟨26, _⟩ => ⟨S10x1, .f32⟩
  | .hbm, ⟨27, _⟩ => ⟨S_, .f32⟩
  | .hbm, ⟨28, _⟩ => ⟨S10x1, .f32⟩
  | .hbm, ⟨29, _⟩ => ⟨S10x1, .i1⟩
  | .hbm, ⟨30, _⟩ => ⟨S10x1, .f32⟩
  | .hbm, ⟨31, _⟩ => ⟨S_, .f32⟩
  | .hbm, ⟨32, _⟩ => ⟨S10x1, .f32⟩
  | .hbm, ⟨33, _⟩ => ⟨S10x1, .f32⟩
  | .hbm, ⟨34, _⟩ => ⟨S10x1024, .f32⟩
  | .hbm, ⟨35, _⟩ => ⟨S10x1024, .f32⟩
  | .hbm, ⟨36, _⟩ => ⟨S_, .f32⟩
  | .hbm, ⟨37, _⟩ => ⟨S_, .f32⟩
  | .hbm, ⟨38, _⟩ => ⟨S10x1024, .i1⟩
  | .hbm, ⟨39, _⟩ => ⟨S10x1024, .f32⟩
  | .hbm, ⟨40, _⟩ => ⟨S10x1024, .f32⟩
  | .hbm, ⟨41, _⟩ => ⟨S_, .f32⟩
  | .hbm, ⟨42, _⟩ => ⟨S1024x10, .f32⟩
  | .hbm, ⟨43, _⟩ => ⟨S_, .f32⟩
  | .hbm, ⟨44, _⟩ => ⟨S1024x10, .f32⟩
  | .hbm, ⟨45, _⟩ => ⟨S1024x10, .f32⟩
  | .hbm, ⟨46, _⟩ => ⟨S1024x10, .f32⟩
  | .hbm, ⟨47, _⟩ => ⟨S1024x10, .f32⟩
  | .hbm, ⟨48, _⟩ => ⟨S1024x10, .i32⟩
  | .hbm, ⟨49, _⟩ => ⟨S_, .f32⟩
  | .hbm, ⟨50, _⟩ => ⟨S_, .i32⟩
  | .hbm, ⟨51, _⟩ => ⟨S1024, .f32⟩
  | .hbm, ⟨52, _⟩ => ⟨S1024, .i32⟩
  | _, _ => ⟨S4096x20x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_v0 : Ref sig .tc := ⟨.hbm, 48, rfl⟩
abbrev main_call2_cst : Ref sig .tc := ⟨.hbm, 49, rfl⟩
abbrev main_call2_c : Ref sig .tc := ⟨.hbm, 50, rfl⟩
abbrev main_call2_v1_0 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.ReadAt
public import Idealize.ShloMosaic.Lib.Pipeline.Regions

/-! The reference's run. Its `@main` is a straight line of array operations, so every buffer ends at the results of those
    operations in order. The line is cut into four pieces, each read by itself. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.StableHlo

variable {F : FTy → Type} [FloatOps F]

/-- The operations of the sums over the time steps and their sums by label. -/
abbrev opsA : List (HloOp τ sig (Elt F)) :=
  [ StableHlo.nullary main_cst (constant S_ .f32 0x00000000#32),
    StableHlo.binary main_arg0 main_cst main_v0 ((fun x v => Host.reduceAdd x v reducesTo_S4096x20x1024_S4096x1024_d1 h_S_) : (⟨S4096x20x1024, .f32⟩ : BufTy).Contents (Elt F) → (⟨S_, .f32⟩ : BufTy).Contents (Elt F) → (⟨S4096x1024, .f32⟩ : BufTy).Contents (Elt F)),
    StableHlo.nullary main_cst_0 (constant S_ .f32 0x00000000#32),
    StableHlo.unary main_cst_0 main_v1 (broadcastInDim S10x1024 ![] bcast_S_S10x1024 : (⟨S_, .f32⟩ : BufTy).Contents (Elt F) → (⟨S10x1024, .f32⟩ : BufTy).Contents (Elt F)),
    StableHlo.unary main_arg1 main_v2 (broadcastInDim S4096x1 ![0] bcast_S4096_S4096x1_0 : (⟨S4096, .i32⟩ : BufTy).Contents (Elt F) → (⟨S4096x1, .i32⟩ : BufTy).Contents (Elt F)),
    StableHlo.ternary main_v1 main_v2 main_v0 main_v3 ((fun x i u => Host.scatterAdd scatter_S10x1024_S4096x1_S4096x1024_1_0_0_1 x i u) : (⟨S10x1024, .f32⟩ : BufTy).Contents (Elt F) → (⟨S4096x1, .i32⟩ : BufTy).Contents (Elt F) → (⟨S4096x1024, .f32⟩ : BufTy).Contents (Elt F) → (⟨S10x1024, .f32⟩ : BufTy).Contents (Elt F)) ]
/-- The operations of the count of each label. -/
abbrev opsB : List (HloOp τ sig (Elt F)) :=
  [ StableHlo.nullary main_c (constantI S_ 32 0#32),
    StableHlo.unary main_c main_v4 (broadcastInDim S10 ![] bcast_S_S10 : (⟨S_, .i32⟩ : BufTy).Contents (Elt F) → (⟨S10, .i32⟩ : BufTy).Contents (Elt F)),
    StableHlo.nullary main_c_1 (constantI S_ 32 0#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4096, .i32⟩) (broadcastInDim S4096 ![] bcast_S_S4096),
    StableHlo.TRef.binary (.of main_call0_v1 : StableHlo.TRef sig ⟨S4096, .i32⟩) (.of main_arg1 : StableHlo.TRef sig ⟨S4096, .i32⟩) (.of main_v5 : StableHlo.TRef sig ⟨S4096, .i32⟩) maxsi,
    StableHlo.nullary main_c_2 (constantI S_ 32 0#32),
    StableHlo.unary main_c_2 main_v6 (broadcastInDim S4096 ![] bcast_S_S4096 : (⟨S_, .i32⟩ : BufTy).Contents (Elt F) → (⟨S4096, .i32⟩ : BufTy).Contents (Elt F)),
    StableHlo.binary main_v5 main_v6 main_v7 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 10#32),
    StableHlo.unary main_c_3 main_v8 (broadcastInDim S4096 ![] bcast_S_S4096 : (⟨S_, .i32⟩ : BufTy).Contents (Elt F) → (⟨S4096, .i32⟩ : BufTy).Contents (Elt F)),
    StableHlo.binary main_v5 main_v8 main_v9 (addi : (⟨S4096, .i32⟩ : BufTy).Contents (Elt F) → (⟨S4096, .i32⟩ : BufTy).Contents (Elt F) → (⟨S4096, .i32⟩ : BufTy).Contents (Elt F)),
    StableHlo.ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v10 main_v11 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v12 (broadcastInDim S4096 ![] bcast_S_S4096 : (⟨S_, .i32⟩ : BufTy).Contents (Elt F) → (⟨S4096, .i32⟩ : BufTy).Contents (Elt F)),
    StableHlo.ternary main_v4 main_v11 main_v12 main_v13 ((fun x i u => Host.scatter scatter_S10_S4096x1_S4096_n_0_0_1 IntOp.addi x i u) : (⟨S10, .i32⟩ : BufTy).Contents (Elt F) → (⟨S4096x1, .i32⟩ : BufTy).Contents (Elt F) → (⟨S4096, .i32⟩ : BufTy).Contents (Elt F) → (⟨S10, .i32⟩ : BufTy).Contents (Elt F)) ]
/-- The operations of the means and the rates. -/
abbrev opsC : List (HloOp τ sig (Elt F)) :=
  [ StableHlo.unary main_v13 main_v14 (sitofp .f32 : (⟨S10, .i32⟩ : BufTy).Contents (Elt F) → (⟨S10, .f32⟩ : BufTy).Contents (Elt F)),
    StableHlo.unary main_v14 main_v15 (broadcastInDim S10x1 ![0] bcast_S10_S10x1_0 : (⟨S10, .f32⟩ : BufTy).Contents (Elt F) → (⟨S10x1, .f32⟩ : BufTy).Contents (Elt F)),
    StableHlo.nullary main_cst_5 (constant S_ .f32 0x00000000#32),
    StableHlo.unary main_cst_5 main_v16 (broadcastInDim S10x1 ![] bcast_S_S10x1 : (⟨S_, .f32⟩ : BufTy).Contents (Elt F) → (⟨S10x1, .f32⟩ : BufTy).Contents (Elt F)),
    StableHlo.binary main_v15 main_v16 main_v17 (cmpf .ogt : (⟨S10x1, .f32⟩ : BufTy).Contents (Elt F) → (⟨S10x1, .f32⟩ : BufTy).Contents (Elt F) → (⟨S10x1, .i1⟩ : BufTy).Contents (Elt F)),
    StableHlo.unary main_v14 main_v18 (broadcastInDim S10x1 ![0] bcast_S10_S10x1_0 : (⟨S10, .f32⟩ : BufTy).Contents (Elt F) → (⟨S10x1, .f32⟩ : BufTy).Contents (Elt F)),
    StableHlo.nullary main_cst_6 (constant S_ .f32 0x3F800000#32),
    StableHlo.unary main_cst_6 main_v19 (broadcastInDim S10x1 ![] bcast_S_S10x1 : (⟨S_, .f32⟩ : BufTy).Contents (Elt F) → (⟨S10x1, .f32⟩ : BufTy).Contents (Elt F)),
    StableHlo.binary main_v18 main_v19 main_v20 (maximumf : (⟨S10x1, .f32⟩ : BufTy).Contents (Elt F) → (⟨S10x1, .f32⟩ : BufTy).Contents (Elt F) → (⟨S10x1, .f32⟩ : BufTy).Contents (Elt F)),
    StableHlo.unary main_v20 main_v21 (broadcastInDim S10x1024 ![0, 1] bcast_S10x1_S10x1024_0_1 : (⟨S10x1, .f32⟩ : BufTy).Contents (Elt F) → (⟨S10x1024, .f32⟩ : BufTy).Contents (Elt F)),
    StableHlo.binary main_v3 main_v21 main_v22 (Host.divf : (⟨S10x1024, .f32⟩ : BufTy).Contents (Elt F) → (⟨S10x1024, .f32⟩ : BufTy).Contents (Elt F) → (⟨S10x1024, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_v17 : StableHlo.TRef sig ⟨S10x1, .i1⟩) (.of main_call1_v1 : StableHlo.TRef sig ⟨S10x1024, .i1⟩) (broadcastInDim S10x1024 ![0, 1] bcast_S10x1_S10x1024_0_1),
    StableHlo.TRef.unary (.of main_call1_v0 : StableHlo.TRef sig ⟨S_, .f32⟩) (.of main_call1_v2 : StableHlo.TRef sig ⟨S10x1024, .f32⟩) (broadcastInDim S10x1024 ![] bcast_S_S10x1024),
    StableHlo.TRef.ternary (.of main_call1_v1 : StableHlo.TRef sig ⟨S10x1024, .i1⟩) (.of main_v22 : StableHlo.TRef sig ⟨S10x1024, .f32⟩) (.of main_call1_v2 : StableHlo.TRef sig ⟨S10x1024, .f32⟩) (.of main_v23 : StableHlo.TRef sig ⟨S10x1024, .f32⟩) select,
    StableHlo.nullary main_cst_8 (constant S_ .f32 0x00000000#32),
    StableHlo.unary main_cst_8 main_v24 (broadcastInDim S1024x10 ![] bcast_S_S1024x10 : (⟨S_, .f32⟩ : BufTy).Contents (Elt F) → (⟨S1024x10, .f32⟩ : BufTy).Contents (Elt F)),
    StableHlo.nullary main_cst_9 (constant S_ .f32 0x3F800000#32),
    StableHlo.unary main_cst_9 main_v25 (broadcastInDim S1024x10 ![] bcast_S_S1024x10 : (⟨S_, .f32⟩ : BufTy).Contents (Elt F) → (⟨S1024x10, .f32⟩ : BufTy).Contents (Elt F)),
    StableHlo.binary main_v25 main_v24 main_v26 (mulf : (⟨S1024x10, .f32⟩ : BufTy).Contents (Elt F) → (⟨S1024x10, .f32⟩ : BufTy).Contents (Elt F) → (⟨S1024x10, .f32⟩ : BufTy).Contents (Elt F)),
    StableHlo.unary main_v23 main_v27 ((transpose S1024x10 [1, 0] · transposes_S10x1024_S1024x10_1_0) : (⟨S10x1024, .f32⟩ : BufTy).Contents (Elt F) → (⟨S1024x10, .f32⟩ : BufTy).Contents (Elt F)),
    StableHlo.binary main_v26 main_v27 main_v28 (addf : (⟨S1024x10, .f32⟩ : BufTy).Contents (Elt F) → (⟨S1024x10, .f32⟩ : BufTy).Contents (Elt F) → (⟨S1024x10, .f32⟩ : BufTy).Contents (Elt F)) ]
/-- The operations of the label of the greatest rate. -/
abbrev opsD : List (HloOp τ sig (Elt F)) :=
  [ StableHlo.TRef.nullary (.of main_call2_v0 : StableHlo.TRef sig ⟨S1024x10, .i32⟩) (iotaInDim S1024x10 32 1),
    StableHlo.TRef.nullary (.of main_call2_cst : StableHlo.TRef sig ⟨S_, .f32⟩) (constant S_ .f32 0xFF800000#32),
    StableHlo.TRef.nullary (.of main_call2_c : StableHlo.TRef sig ⟨S_, .i32⟩) (constantI S_ 32 0#32),
    StableHlo.TRef.quaternary (.of main_v28 : StableHlo.TRef sig ⟨S1024x10, .f32⟩) (.of main_call2_v0 : StableHlo.TRef sig ⟨S1024x10, .i32⟩) (.of main_call2_cst : StableHlo.TRef sig ⟨S_, .f32⟩) (.of main_call2_c : StableHlo.TRef sig ⟨S_, .i32⟩) (.of main_call2_v1_0 : StableHlo.TRef sig ⟨S1024, .f32⟩) (fun x y u v j => (Host.argReduce reducer_argmax_f32_i32 x y u v reducesTo_S1024x10_S1024_d1 h_S_ j).1),
    StableHlo.TRef.quaternary (.of main_v28 : StableHlo.TRef sig ⟨S1024x10, .f32⟩) (.of main_call2_v0 : StableHlo.TRef sig ⟨S1024x10, .i32⟩) (.of main_call2_cst : StableHlo.TRef sig ⟨S_, .f32⟩) (.of main_call2_c : StableHlo.TRef sig ⟨S_, .i32⟩) (.of main_v29 : StableHlo.TRef sig ⟨S1024, .i32⟩) (fun x y u v j => (Host.argReduce reducer_argmax_f32_i32 x y u v reducesTo_S1024x10_S1024_d1 h_S_ j).2) ]

/-- All operations of `@main`, in order. -/
abbrev ops : List (HloOp τ sig (Elt F)) := opsA ++ (opsB ++ (opsC ++ opsD))

/-- `@main` is that straight line. -/
theorem main_line (c : Dev nD) : main (F := F) c = seq ops := by
  chain_rfl

/-- No buffer is scoped. -/
theorem refs_unscoped : (Finset.univ.filter fun b : Ref sig .tc => b.isScoped) = ∅ := by decide
/-- No semaphore is scoped. -/
theorem sems_unscoped : (Finset.univ.filter fun sm : SemLoc sig => sm.isScoped .tc) = ∅ := by decide

/-- The first piece touches the core's buffers alone. -/
theorem opsA_sub : (opsA : List (HloOp τ sig (Elt F))).Forall fun op => op.bufs ⊆ tcRefs τ sig :=
  ⟨nullary_bufs_sub .., binary_bufs_sub .., nullary_bufs_sub .., unary_bufs_sub .., unary_bufs_sub .., ternary_bufs_sub ..⟩
/-- The second piece touches the core's buffers alone. -/
theorem opsB_sub : (opsB : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
/-- The third piece touches the core's buffers alone. -/
theorem opsC_sub : (opsC : List (HloOp τ sig (Elt F))).Forall fun op => op.bufs ⊆ tcRefs τ sig :=
  ⟨unary_bufs_sub .., unary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., unary_bufs_sub .., unary_bufs_sub .., ternary_bufs_sub .., nullary_bufs_sub .., unary_bufs_sub .., nullary_bufs_sub .., unary_bufs_sub .., binary_bufs_sub .., unary_bufs_sub .., binary_bufs_sub ..⟩
/-- The last piece touches the core's buffers alone. -/
theorem opsD_sub : (opsD : List (HloOp τ sig (Elt F))).Forall fun op => op.bufs ⊆ tcRefs τ sig :=
  ⟨nullary_bufs_sub .., nullary_bufs_sub .., nullary_bufs_sub .., quaternary_bufs_sub .., quaternary_bufs_sub ..⟩
/-- The first piece creates no buffer. -/
theorem opsA_fresh : ∀ op ∈ (opsA : List (HloOp τ sig (Elt F))), op.fresh = ∅ := by
  intro _ h; (repeat (cases h with | head => rfl | tail _ h => ?_)); exact nomatch h
/-- The second piece creates no buffer. -/
theorem opsB_fresh : ∀ op ∈ (opsB : List (HloOp τ sig (Elt F))), op.fresh = ∅ := by
  intro _ h; (repeat (cases h with | head => rfl | tail _ h => ?_)); exact nomatch h
/-- The third piece creates no buffer. -/
theorem opsC_fresh : ∀ op ∈ (opsC : List (HloOp τ sig (Elt F))), op.fresh = ∅ := by
  intro _ h; (repeat (cases h with | head => rfl | tail _ h => ?_)); exact nomatch h
/-- The last piece creates no buffer. -/
theorem opsD_fresh : ∀ op ∈ (opsD : List (HloOp τ sig (Elt F))), op.fresh = ∅ := by
  intro _ h; (repeat (cases h with | head => rfl | tail _ h => ?_)); exact nomatch h

/-- Each operation touches buffers of the core alone. -/
theorem ops_sub : (ops : List (HloOp τ sig (Elt F))).Forall fun op => op.bufs ⊆ tcRefs τ sig := by
  rw [List.forall_append, List.forall_append, List.forall_append]
  exact ⟨opsA_sub, opsB_sub, opsC_sub, opsD_sub⟩

/-- No operation creates a buffer. -/
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  · exact opsD_fresh op h

/-- Two lines in a row leave what the second leaves after the first. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-- The reference ends with each buffer at the operations' results, and every counter at zero. -/
theorem run (m : (ℓ : Loc nD τ sig) → Buf (Elt F) ℓ) (ρ : Dev nD → PrngReg) :
    θ_run defs (onTc (τ := τ) (main (F := F))) ⟨m, fun _ => 0, ρ⟩ (fun r => (∀ (d : Dev nD) (b : Ref sig .tc),
      r.2.mem ((d.tc : Thread nD τ).loc b) = after opsD (after opsC (after opsB (after opsA (launchContents m d)))) (Proc.devRef .tc b))
      ∧ r.2.sem = fun _ => 0) :=
  (θ_run defs _ _).mono (fun r h => ⟨fun d b => (h d b).trans (by rw [after_two, after_two, after_two]), sem_eq_zero_of_no_sems rfl _⟩)
    (run_seq refs_unscoped sems_unscoped defs main (fun _ => ops) main_line (fun _ => ops_sub) m ρ (fun _ => ops_fresh))

/-- No operation writes the spikes. -/
theorem keeps_arg0 (V : Valuation τ sig (Elt F)) :
    after opsD (after opsC (after opsB (after opsA V))) (Proc.devRef .tc main_arg0) = V (Proc.devRef .tc main_arg0) := by
  after_results
/-- No operation writes the labels. -/
theorem keeps_arg1 (V : Valuation τ sig (Elt F)) :
    after opsD (after opsC (after opsB (after opsA V))) (Proc.devRef .tc main_arg1) = V (Proc.devRef .tc main_arg1) := by
  after_results

end Cert.ReferenceIdeal.Run

end
-- ==== Proof.LoopI.lean ====
module

public import proofs.«01_k».proof.Proof.Gen.KernelIdeal.Launch
public import proofs.«01_k».proof.Proof.Gen.KernelIdeal.Loops
public import Idealize.ShloMosaic.Lib.Pipeline.FrameBody
public import Idealize.ShloMosaic.Lib.Pipeline.FrameSuffixV
public import Idealize.ShloMosaic.Lib.Ring
public import Idealize.ShloMosaic.Lib.WordCmp
public import Idealize.ShloMosaic.Lib.WholeRead
public import Idealize.ShloMosaic.Lib.WritesUnit
public import Idealize.ShloMosaic.Lib.CellWrites
public import Idealize.ShloMosaic.Lib.Pointwise
public import Idealize.ShloMosaic.Lib.Tactic

/-! One trip of the kernel's loop over the 128 rows of a block: what it leaves in the two accumulators, and the loop's invariant. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Contents of a table that lives in scalar memory. -/
abbrev TbBuf (c : Dev nD) {S : Shape} {e : EltTy} (M : Memref sig .tc .smem S e) : Type := Buf (Elt F) (M.view.loc (c : Thread nD τ))
/-- Right to read such a table, at contents `f`. -/
abbrev tbPt (c : Dev nD) {S : Shape} {e : EltTy} (M : Memref sig .tc .smem S e) (f : TbBuf (F := F) c M) : sProp 𝕄 :=
  M.view.loc (c : Thread nD τ) ↦{fullShare.right} f

/-- The label of row `k` of block `t`. -/
def labAt (lb : Vec F S4096 .i32) (t k : ℕ) : BitVec 32 := lb (ix1 (Fin.ofNat 4096 (128 * t + k)))

/-- Row `l` of the accumulator with row `k` of `s` added. -/
def accStep (l : ℕ) (k : ℕ) (s : Vec F S128x8x128 .f32) (a : Vec F S10x8x128 .f32) : Vec F S10x8x128 .f32 :=
  fun y => if (y 0).val = l then FloatOps.addf (a y) (s (ix3 (Fin.ofNat 128 k) (y 1) (y 2))) else a y

/-- The counts with one added at `l`. -/
def cntStep (l : ℕ) (n : Vec F S10 .i32) : Vec F S10 .i32 :=
  fun y => if (y 0).val = l then (n y : BitVec 32) + 1#32 else n y

/-- The accumulator before trip `k` of block `t`. -/
def accL (lb : Vec F S4096 .i32) (t : ℕ) (s : Vec F S128x8x128 .f32) (a : Vec F S10x8x128 .f32) : ℕ → Vec F S10x8x128 .f32
  | 0 => a
  | k + 1 => accStep (labAt lb t k).toNat k s (accL lb t s a k)

/-- The counts before trip `k` of block `t`. -/
def cntL (lb : Vec F S4096 .i32) (t : ℕ) (n : Vec F S10 .i32) : ℕ → Vec F S10 .i32
  | 0 => n
  | k + 1 => cntStep (labAt lb t k).toNat (cntL lb t n k)

/-- The loop makes 128 trips. -/
theorem trips_eq : k0_t1_loop.trips = 128 := by decide +kernel

/-- A label below ten passes the bounds check. -/
theorem chk_of_lt (v : BitVec 32) (h : v.toNat < 10) : k0_chk1 v := by
  refine ⟨fun a => ?_, fun a => ?_⟩
  · fin_cases a
    · show v.toNat + 1 ≤ 10; omega
    · show 0 + 8 ≤ 8; omega
    · show 0 + 128 ≤ 128; omega
  · fin_cases a
    show v.toNat + 1 ≤ 10; omega

section Reads
variable (arg5 : Memref sig .tc .vmem S10x8x128 .f32) (harg5 : arg5.IsWhole) (arg6 : Memref sig .tc .vmem S128x8x128 .f32) (harg6 : arg6.IsWhole)
  (arg7 : Memref sig .tc .smem S10 .i32) (harg7 : arg7.IsWhole)

/-- What a trip's store leaves in the accumulator. -/
theorem acc_stored (v : BitVec 32) (k : Fin k0_t1_loop.trips) (s : Vec F S128x8x128 .f32) (a : Vec F S10x8x128 .f32)
    (h1 : ∀ x, k0_off2 v x + S1x8x128.size x ≤ S10x8x128.size x) (h2 : ∀ x, k0_off3 k x + S1x8x128.size x ≤ S128x8x128.size x) :
    arg5.view.read (Elt F) (arg5.view.writes (Elt F) (harg5.unread a) [(⟨Rect.unit (k0_off2 v) S1x8x128.size h1,
      k0_pay2 (arg5.view.readAt (Elt F) (Rect.unit (s := S10x8x128) (k0_off2 v) S1x8x128.size h1).toLoadRect (harg5.unread a))
        (arg6.view.readAt (Elt F) (Rect.unit (s := S128x8x128) (k0_off3 k) S1x8x128.size h2).toLoadRect (harg6.unread s))⟩ : View.Piece (Elt F) S10x8x128 .f32)])
    = accStep v.toNat k.val s a := by
  have hk : k.val < 128 := Nat.lt_of_lt_of_eq k.isLt trips_eq
  funext y
  unfold accStep
  by_cases hy : (y 0).val = v.toNat
  · rw [if_pos hy]
    rw [View.read_writes_cons_unit_of_mem arg5.view _ h1 _ [] y (ix3 (n0 := 1) (n1 := 8) (n2 := 128) 0 (y 1) (y 2)) rfl (by
      intro a; fin_cases a
      · exact hy
      · exact (Nat.zero_add _).symm
      · exact (Nat.zero_add _).symm)]
    have e : ∀ A B : Vec F S1x8x128 .f32, k0_pay2 A B (ix3 (n0 := 1) (n1 := 8) (n2 := 128) 0 (y 1) (y 2))
        = FloatOps.addf (A (ix3 (n0 := 1) (n1 := 8) (n2 := 128) 0 (y 1) (y 2))) (B (ix3 (n0 := 1) (n1 := 8) (n2 := 128) 0 (y 1) (y 2))) := by
      intro A B
      generalize y 1 = p; generalize y 2 = q
      pointwise [k0_pay2]
    refine (e _ _).trans ?_
    rw [harg5.readAt_unread, harg6.readAt_unread]
    congr 1
    · congr 1
      funext a; apply Fin.ext; fin_cases a
      · exact hy.symm
      · show 0 + 1 * (y 1).val = (y 1).val; omega
      · show 0 + 1 * (y 2).val = (y 2).val; omega
    · congr 1
      funext a; apply Fin.ext
      have h3 := k0_off3_eq k
      fin_cases a
      · show k0_off3 k 0 + 1 * 0 = k.val % 128
        rw [h3]; show k.val + 1 * 0 = _; omega
      · show k0_off3 k 1 + 1 * (y 1).val = (y 1).val
        rw [h3]; show 0 + 1 * (y 1).val = _; omega
      · show k0_off3 k 2 + 1 * (y 2).val = (y 2).val
        rw [h3]; show 0 + 1 * (y 2).val = _; omega
  · rw [if_neg hy]
    rw [View.read_writes_cons_unit_of_not_mem arg5.view _ h1 _ [] y rfl 0 (by
      show (y 0).val < v.toNat ∨ v.toNat + 1 ≤ (y 0).val; omega)]
    exact congrFun (harg5.read_unread a) y

/-- What a trip's store leaves in the counts. -/
theorem cnt_stored (v : BitVec 32) (n : Vec F S10 .i32) (p : Elt F .i32)
    (h1 : ∀ x, k0_off4 v x + S1.size x ≤ S10.size x) (hp : ∀ y : S10.Idx, (y 0).val = v.toNat → (p : BitVec 32) = (n y : BitVec 32) + 1#32) :
    arg7.view.read (Elt F) (arg7.view.writes (Elt F) (harg7.unread n) [(⟨Rect.unit (k0_off4 v) S1.size h1, fun _ => p⟩ : View.Piece (Elt F) S10 .i32)])
    = cntStep v.toNat n := by
  funext y
  unfold cntStep
  refine (View.read_writes_cons_cell arg7.view _ h1 p [] y).trans ?_
  show (if (y 0).val = v.toNat then _ else _) = _
  split
  · next h => exact hp y h
  · exact congrFun (harg7.read_unread n) y
end Reads

section Trip
variable (c : Dev nD) (i : grid0.Coords)
  (arg1 : Memref sig .tc .smem S4096 .i32) (harg1 : arg1.IsWhole) (arg2 : Memref sig .tc .vmem S128x20x8x128 .f32) (harg2 : arg2.IsWhole)
  (arg3 : Memref sig .tc .vmem S10x8x128 .f32) (harg3 : arg3.IsWhole) (arg4 : Memref sig .tc .vmem S8x128 .i32) (harg4 : arg4.IsWhole)
  (arg5 : Memref sig .tc .vmem S10x8x128 .f32) (harg5 : arg5.IsWhole) (arg6 : Memref sig .tc .vmem S128x8x128 .f32) (harg6 : arg6.IsWhole)
  (arg7 : Memref sig .tc .smem S10 .i32) (harg7 : arg7.IsWhole)

/-- What a trip holds: the labels to read, the block's row sums, the accumulator and the counts. -/
def tripRes (lb : Vec F S4096 .i32) (s : Vec F S128x8x128 .f32) (a : Vec F S10x8x128 .f32) (n : Vec F S10 .i32) : sProp 𝕄 :=
  iprop(tbPt c arg1 (harg1.unread lb) ∗ owns (c : Thread nD τ) arg6 fullShare s ∗ owns (c : Thread nD τ) arg5 fullShare a ∗ owns (c : Thread nD τ) arg7 fullShare n)

set_option maxHeartbeats 1000000 in
/-- One trip: row `label` of the accumulator gets row `k` of the sums added, its count one. -/
theorem trip (k : Fin k0_t1_loop.trips) (lb : Vec F S4096 .i32) (s : Vec F S128x8x128 .f32) (a : Vec F S10x8x128 .f32) (n : Vec F S10 .i32)
   (hlab : ∀ y, (lb y : BitVec 32).toNat < 10) :
   tripRes c arg1 harg1 arg5 arg6 arg7 lb s a n
   ⊢ wp frame (wpE (defs₀ (F := F)) Variants.none (c : Thread nD τ) none) Set.univ (k0_t1_body (F := F) i arg1 harg1 arg2 harg2 arg3 harg3 arg4 harg4 arg5 harg5 arg6 harg6 arg7 harg7 k ())
      (fun _ => tripRes c arg1 harg1 arg5 arg6 arg7 lb s (accStep (labAt lb (i 0).val k.val).toNat k.val s a) (cntStep (labAt lb (i 0).val k.val).toNat n)) := by
  unfold tripRes owns
  iintro ⟨H1, ⟨%f6, %h6, H6⟩, ⟨%f5, %h5, H5⟩, ⟨%f7, %h7, H7⟩⟩
  obtain rfl := harg6.eq_unread h6; obtain rfl := harg5.eq_unread h5; obtain rfl := harg7.eq_unread h7
  sl_unfold [k0_t1_body]
  sl_exec
  have hrl : trip.sl.r i arg1 harg1 k lb = labAt lb (i 0).val k.val := by
    unfold trip.sl.r labAt
    rw [harg1.readAt_unread]
    congr 1
    funext a; apply Fin.ext; fin_cases a
    have hk : k.val < 128 := Nat.lt_of_lt_of_eq k.isLt trips_eq
    have hi : (i 0).val < 32 := (i 0).isLt
    show k0_off1 i k 0 + 1 * 0 = (128 * (i 0).val + k.val) % 4096
    rw [k0_off1_eq]; show 128 * (i 0).val + k.val + 1 * 0 = _; omega
  have hr : (trip.sl.r i arg1 harg1 k lb).toNat < 10 := by
    rw [hrl]; exact hlab _
  have hchk : k0_chk1 (trip.sl.r i arg1 harg1 k lb) := chk_of_lt _ hr
  sl_exec
  sl_step
  isplitl [H1]; · iexact H1
  isplitl [H6]
  · iexists _; isplitr; swap; · iexact H6
    ipureintro; exact harg6.read_unread s
  isplitl [H5]
  · iexists _; isplitr; swap; · iexact H5
    ipureintro; rw [← hrl]; exact acc_stored arg5 harg5 arg6 harg6 _ k s a _ _
  · iexists _; isplitr; swap; · iexact H7
    ipureintro; rw [← hrl]
    refine cnt_stored arg7 harg7 _ n _ _ ?_
    intro y hy
    have e : trip.sl.r_1 c i arg1 harg1 arg7 harg7 k lb n hchk = n y := by
      unfold trip.sl.r_1
      rw [harg7.readAt_unread]
      congr 1
      funext a; apply Fin.ext; fin_cases a
      exact hy.symm
    unfold trip.sl.v86
    rw [e]; rfl

/-- The loop's invariant: before trip `k` the accumulators hold what the first `k` rows of the block left. -/
def loopI (lb : Vec F S4096 .i32) (s : Vec F S128x8x128 .f32) (a : Vec F S10x8x128 .f32) (n : Vec F S10 .i32) (k : ℕ) : sProp 𝕄 :=
  tripRes c arg1 harg1 arg5 arg6 arg7 lb s (accL lb (i 0).val s a k) (cntL lb (i 0).val n k)

/-- A trip keeps the loop's invariant. -/
theorem loopI_step (lb : Vec F S4096 .i32) (s : Vec F S128x8x128 .f32) (a : Vec F S10x8x128 .f32) (n : Vec F S10 .i32)
    (hlab : ∀ y, (lb y : BitVec 32).toNat < 10) (k : Fin k0_t1_loop.trips) :
    loopI c i arg1 harg1 arg5 arg6 arg7 lb s a n k.val
    ⊢ wp frame (wpE (defs₀ (F := F)) Variants.none (c : Thread nD τ) none) Set.univ (k0_t1_body (F := F) i arg1 harg1 arg2 harg2 arg3 harg3 arg4 harg4 arg5 harg5 arg6 harg6 arg7 harg7 k ())
      (fun _ => loopI c i arg1 harg1 arg5 arg6 arg7 lb s a n (k.val + 1)) :=
  trip c i arg1 harg1 arg2 harg2 arg3 harg3 arg4 harg4 arg5 harg5 arg6 harg6 arg7 harg7 k lb s _ _ hlab
end Trip

end Cert.KernelIdeal.Run
-- ==== Proof.BodyI.lean ====
module

public import proofs.«01_k».proof.Proof.LoopI

/-! What the body computes at a grid point: the pure functions, and its three runs. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Step `r` of a block's rows. -/
def slice (x : Vec F S128x20x8x128 .f32) (r : ℕ) : Vec F S128x1x8x128 .f32 :=
  fun y => x (ix4 (n1 := 20) (y 0) (Fin.ofNat 20 r) (y 2) (y 3))

/-- A block's rows summed over the twenty steps. -/
def sOf (x : Vec F S128x20x8x128 .f32) : Vec F S128x8x128 .f32 :=
  k0_pay1 (k0_pay27 (slice x 0) (slice x 1) (slice x 2) (slice x 3))
    (k0_pay30 (k0_pay28 (slice x 4) (slice x 5) (slice x 6)) (k0_pay29 (slice x 7)))
    (k0_pay31 (slice x 8) (slice x 9) (slice x 10) (slice x 11))
    (k0_pay32 (slice x 12) (slice x 13) (slice x 14) (slice x 15))
    (slice x 16) (slice x 17) (slice x 18) (slice x 19)

/-- The cleared accumulator. -/
def acc0 : Vec F S10x8x128 .f32 := k0_pay26
/-- The cleared counts. -/
def cnt0 : Vec F S10 .i32 := fun _ => (0#32 : BitVec 32)

/-- Row `l` of an accumulator. -/
def rowOf (a : Vec F S10x8x128 .f32) (l : ℕ) : Vec F S1x8x128 .f32 :=
  fun y => a (ix3 (n0 := 10) (Fin.ofNat 10 l) (y 1) (y 2))

/-- The mean of one label: its accumulator row divided by its count, zero when it has none. -/
def meanRow (n : Vec F S10 .i32) (a : Vec F S10x8x128 .f32) (l : ℕ) : FVec F S8x128 .f32 :=
  k0_pay4 (n (ix1 (Fin.ofNat 10 l))) (rowOf a l)

/-- The rates the last point stores. -/
def rOut (n : Vec F S10 .i32) (a : Vec F S10x8x128 .f32) : Vec F S10x8x128 .f32 :=
  fun y => meanRow n a (y 0).val (ix2 (n0 := 8) (n1 := 128) (y 1) (y 2))

/-- The assignments the last point stores. -/
def gOut (n : Vec F S10 .i32) (a : Vec F S10x8x128 .f32) : Vec F S8x128 .i32 :=
  k0_pay3 (meanRow n a 0) (meanRow n a 1) (meanRow n a 2) (meanRow n a 3) (meanRow n a 4)
    (meanRow n a 5) (meanRow n a 6) (meanRow n a 7) (meanRow n a 8) (meanRow n a 9)

/-- The first point's test. -/
abbrev cond1 (i : grid0.Coords) : Prop := Scalar.cmpi .ne (Scalar.extui (Scalar.cmpi .eq (BitVec.ofNat 32 (i 0).val) 0#32) : BitVec 32) 0#32 = 1#1
/-- The last point's test. -/
abbrev cond2 (i : grid0.Coords) : Prop := k0_cond2 i = 1#1

section Body
variable (c : Dev nD) (i : grid0.Coords)
  (arg1 : Memref sig .tc .smem S4096 .i32) (harg1 : arg1.IsWhole) (arg2 : Memref sig .tc .vmem S128x20x8x128 .f32) (harg2 : arg2.IsWhole)
  (arg3 : Memref sig .tc .vmem S10x8x128 .f32) (harg3 : arg3.IsWhole) (arg4 : Memref sig .tc .vmem S8x128 .i32) (harg4 : arg4.IsWhole)
  (arg5 : Memref sig .tc .vmem S10x8x128 .f32) (harg5 : arg5.IsWhole) (arg6 : Memref sig .tc .vmem S128x8x128 .f32) (harg6 : arg6.IsWhole)
  (arg7 : Memref sig .tc .smem S10 .i32) (harg7 : arg7.IsWhole)

/-- A load of step `r` reads that slice. -/
theorem slice_read (x : Vec F S128x20x8x128 .f32) (r : ℕ) (hr : r < 20) (h : ∀ a, (![0, r, 0, 0] : Fin 4 → ℕ) a + S128x1x8x128.size a ≤ S128x20x8x128.size a) :
    arg2.view.readAt (Elt F) (Rect.unit (s := S128x20x8x128) ![0, r, 0, 0] S128x1x8x128.size h).toLoadRect (harg2.unread x) = slice x r := by
  funext y
  rw [harg2.readAt_unread]
  unfold slice
  congr 1
  funext a; apply Fin.ext; fin_cases a
  · show 0 + 1 * (y 0).val = (y 0).val; omega
  · have : (y 1).val < 1 := (y 1).isLt
    show r + 1 * (y 1).val = r % 20; omega
  · show 0 + 1 * (y 2).val = (y 2).val; omega
  · show 0 + 1 * (y 3).val = (y 3).val; omega

/-- A store of a whole buffer leaves what was stored. -/
theorem whole_stored {S : Shape} {e : EltTy} {sp : Space} (M : Memref sig .tc sp S e) (f : M.view.ty.Contents (Elt F)) (off : Fin S.rank → ℕ) (h : ∀ a, off a + S.size a ≤ S.size a)
    (w : S.Idx → Elt F e) (L : List (View.Piece (Elt F) S e)) :
    M.view.read (Elt F) (M.view.writes (Elt F) f ((⟨Rect.unit off S.size h, w⟩ : View.Piece (Elt F) S e) :: L)) = w := by
  funext y
  refine View.read_writes_cons_unit_of_mem M.view f h w L y y rfl fun a => ?_
  have := h a; omega

/-- After the loop: the accumulators at what 128 trips left. -/
theorem loopI_end (lb : Vec F S4096 .i32) (s : Vec F S128x8x128 .f32) (a : Vec F S10x8x128 .f32) (n : Vec F S10 .i32) :
    loopI c i arg1 harg1 arg5 arg6 arg7 lb s a n (Scf.trips k0_t1_loop.lb k0_t1_loop.ub k0_t1_loop.st)
      ⊢ tripRes c arg1 harg1 arg5 arg6 arg7 lb s (accL lb (i 0).val s a 128) (cntL lb (i 0).val n 128) := by
  unfold loopI
  rw [show Scf.trips k0_t1_loop.lb k0_t1_loop.ub k0_t1_loop.st = 128 from trips_eq]

/-- The ten stores that clear the counts. -/
theorem cnt0_stored (f : arg7.view.ty.Contents (Elt F)) (L : List (View.Piece (Elt F) S10 .i32)) :
    arg7.view.read (Elt F) (arg7.view.writes (Elt F) f (
      (⟨Rect.unit ![9] S1.size inb_S10_S1_9, fun _ => (0#32 : BitVec 32)⟩ : View.Piece (Elt F) S10 .i32) :: ⟨Rect.unit ![8] S1.size inb_S10_S1_8, fun _ => (0#32 : BitVec 32)⟩
      :: ⟨Rect.unit ![7] S1.size inb_S10_S1_7, fun _ => (0#32 : BitVec 32)⟩ :: ⟨Rect.unit ![6] S1.size inb_S10_S1_6, fun _ => (0#32 : BitVec 32)⟩
      :: ⟨Rect.unit ![5] S1.size inb_S10_S1_5, fun _ => (0#32 : BitVec 32)⟩ :: ⟨Rect.unit ![4] S1.size inb_S10_S1_4, fun _ => (0#32 : BitVec 32)⟩
      :: ⟨Rect.unit ![3] S1.size inb_S10_S1_3, fun _ => (0#32 : BitVec 32)⟩ :: ⟨Rect.unit ![2] S1.size inb_S10_S1_2, fun _ => (0#32 : BitVec 32)⟩
      :: ⟨Rect.unit ![1] S1.size inb_S10_S1_1, fun _ => (0#32 : BitVec 32)⟩ :: ⟨Rect.unit ![0] S1.size inb_S10_S1_0, fun _ => (0#32 : BitVec 32)⟩ :: L)) = cnt0 := by
  funext y
  have hy : (y 0).val < 10 := (y 0).isLt
  unfold cnt0
  iterate 10
    refine (View.read_writes_cons_cell (Val := Elt F) (e := .i32) arg7.view _ _ (0#32 : BitVec 32) _ y).trans ?_
    split
    · rfl
  rename_i a9 a8 a7 a6 a5 a4 a3 a2 a1 a0
  simp only [Matrix.cons_val_zero] at a9 a8 a7 a6 a5 a4 a3 a2 a1 a0
  omega

set_option maxHeartbeats 4000000 in
/-- A point that is neither the first nor the last adds its block to the accumulators. -/
theorem run_mid (lb : Vec F S4096 .i32) (x : Vec F S128x20x8x128 .f32) (a : Vec F S10x8x128 .f32) (n : Vec F S10 .i32)
   (hlab : ∀ y, (lb y : BitVec 32).toNat < 10) (h1 : ¬ cond1 i) (h2 : ¬ cond2 i) (K : PUnit → sProp 𝕄) :
   iprop(tbPt c arg1 (harg1.unread lb) ∗ owns (c : Thread nD τ) arg2 fullShare x ∗ owns (c : Thread nD τ) arg5 fullShare a
     ∗ (∃ d, owns (c : Thread nD τ) arg6 fullShare d) ∗ owns (c : Thread nD τ) arg7 fullShare n
     ∗ (iprop(tbPt c arg1 (harg1.unread lb) ∗ owns (c : Thread nD τ) arg2 fullShare x
         ∗ owns (c : Thread nD τ) arg5 fullShare (accL lb (i 0).val (sOf x) a 128)
         ∗ (∃ d, owns (c : Thread nD τ) arg6 fullShare d) ∗ owns (c : Thread nD τ) arg7 fullShare (cntL lb (i 0).val n 128)) -∗ K ⟨⟩))
   ⊢ wp frame (wpE (defs₀ (F := F)) Variants.none (c : Thread nD τ) none) Set.univ (cc0__body (F := F) i arg1 harg1 arg2 harg2 arg3 harg3 arg4 harg4 arg5 harg5 arg6 harg6 arg7 harg7) K := by
  simp only [cc0__body_eq_skeleton]; unfold cc0__body_skel
  simp only [k0_part5_eq_skeleton, k0_part6_eq_skeleton]
  unfold owns
  iintro ⟨H1, ⟨%f2, %h2', H2⟩,  ⟨%f5, %h5, H5⟩, ⟨%d6, %f6, -, H6⟩, ⟨%f7, %h7, H7⟩, Hk⟩
  obtain rfl := harg2.eq_unread h2'; obtain rfl := harg5.eq_unread h5; obtain rfl := harg7.eq_unread h7
  sl_unfold [k0_part5_skel, k0_part6_skel]
  sl_exec (disch := first | sl_exact h1 | sl_exact h2)
  have e6 : arg6.view.read (Elt F) (arg6.view.writes (Elt F) arg6.view.junk (run_mid.sl.H6_1 c i arg2 harg2 x)) = sOf x := by
    refine (whole_stored arg6 _ _ _ _ _).trans ?_
    unfold run_mid.sl.v49 run_mid.sl.v52 run_mid.sl.v55
    simp only [slice_read arg2 harg2 x 0 (by decide), slice_read arg2 harg2 x 1 (by decide), slice_read arg2 harg2 x 2 (by decide), slice_read arg2 harg2 x 3 (by decide), slice_read arg2 harg2 x 4 (by decide), slice_read arg2 harg2 x 5 (by decide), slice_read arg2 harg2 x 6 (by decide), slice_read arg2 harg2 x 7 (by decide), slice_read arg2 harg2 x 8 (by decide), slice_read arg2 harg2 x 9 (by decide), slice_read arg2 harg2 x 10 (by decide), slice_read arg2 harg2 x 11 (by decide), slice_read arg2 harg2 x 12 (by decide), slice_read arg2 harg2 x 13 (by decide), slice_read arg2 harg2 x 14 (by decide), slice_read arg2 harg2 x 15 (by decide), slice_read arg2 harg2 x 16 (by decide), slice_read arg2 harg2 x 17 (by decide), slice_read arg2 harg2 x 18 (by decide), slice_read arg2 harg2 x 19 (by decide)]
    rfl
  sl_for (fun k _ => loopI c i arg1 harg1 arg5 arg6 arg7 lb (sOf x) a n k) $$ [H1 H5 H6 H7]
  case region =>
    intro k _
    exact loopI_step c i arg1 harg1 arg2 harg2 arg3 harg3 arg4 harg4 arg5 harg5 arg6 harg6 arg7 harg7 lb (sOf x) a n hlab k
  · unfold loopI tripRes owns
    isplitl [H1]; · iexact H1
    isplitl [H6]
    · iexists _; isplitr; swap; · iexact H6
      ipureintro; exact e6
    isplitl [H5]
    · iexists _; isplitr; swap; · iexact H5
      ipureintro; exact h5
    · iexists _; isplitr; swap; · iexact H7
      ipureintro; exact h7
  iintro %_ HI
  ihave HI := (loopI_end c i arg1 harg1 arg5 arg6 arg7 lb (sOf x) a n) $$ HI
  unfold tripRes owns
  icases HI with ⟨H1, ⟨%g6, %hg6, H6⟩, ⟨%g5, %hg5, H5⟩, ⟨%g7, %hg7, H7⟩⟩
  sl_exec (disch := first | sl_exact h1 | sl_exact h2)
  sl_step
  iapply Hk
  isplitl [H1]; · iexact H1
  isplitl [H2]
  · iexists _; isplitr; swap; · iexact H2
    ipureintro; exact h2'
  isplitl [H5]
  · iexists _; isplitr; swap; · iexact H5
    ipureintro; exact hg5
  isplitl [H6]
  · iexists _; iexists _; isplitr; swap; · iexact H6
    ipureintro; rfl
  · iexists _; isplitr; swap; · iexact H7
    ipureintro; exact hg7

set_option maxHeartbeats 4000000 in
/-- The first point clears the accumulators and adds its block. -/
theorem run_init (lb : Vec F S4096 .i32) (x : Vec F S128x20x8x128 .f32) (a : Vec F S10x8x128 .f32) (n : Vec F S10 .i32)
   (hlab : ∀ y, (lb y : BitVec 32).toNat < 10) (h1 :  cond1 i) (h2 : ¬ cond2 i) (K : PUnit → sProp 𝕄) :
   iprop(tbPt c arg1 (harg1.unread lb) ∗ owns (c : Thread nD τ) arg2 fullShare x ∗ owns (c : Thread nD τ) arg5 fullShare a
     ∗ (∃ d, owns (c : Thread nD τ) arg6 fullShare d) ∗ owns (c : Thread nD τ) arg7 fullShare n
     ∗ (iprop(tbPt c arg1 (harg1.unread lb) ∗ owns (c : Thread nD τ) arg2 fullShare x
         ∗ owns (c : Thread nD τ) arg5 fullShare (accL lb (i 0).val (sOf x) acc0 128)
         ∗ (∃ d, owns (c : Thread nD τ) arg6 fullShare d) ∗ owns (c : Thread nD τ) arg7 fullShare (cntL lb (i 0).val cnt0 128)) -∗ K ⟨⟩))
   ⊢ wp frame (wpE (defs₀ (F := F)) Variants.none (c : Thread nD τ) none) Set.univ (cc0__body (F := F) i arg1 harg1 arg2 harg2 arg3 harg3 arg4 harg4 arg5 harg5 arg6 harg6 arg7 harg7) K := by
  simp only [cc0__body_eq_skeleton]; unfold cc0__body_skel
  simp only [k0_part5_eq_skeleton, k0_part6_eq_skeleton]
  unfold owns
  iintro ⟨H1, ⟨%f2, %h2', H2⟩,  ⟨%f5, %h5, H5⟩, ⟨%d6, %f6, -, H6⟩, ⟨%f7, %h7, H7⟩, Hk⟩
  obtain rfl := harg2.eq_unread h2'; obtain rfl := harg5.eq_unread h5; obtain rfl := harg7.eq_unread h7
  sl_unfold [k0_part5_skel, k0_part6_skel]
  sl_exec (disch := first | sl_exact h1 | sl_exact h2)
  have e6 : arg6.view.read (Elt F) (arg6.view.writes (Elt F) arg6.view.junk (run_init.sl.H6_1 c i arg2 harg2 x)) = sOf x := by
    refine (whole_stored arg6 _ _ _ _ _).trans ?_
    unfold run_init.sl.v49 run_init.sl.v52 run_init.sl.v55
    simp only [slice_read arg2 harg2 x 0 (by decide), slice_read arg2 harg2 x 1 (by decide), slice_read arg2 harg2 x 2 (by decide), slice_read arg2 harg2 x 3 (by decide), slice_read arg2 harg2 x 4 (by decide), slice_read arg2 harg2 x 5 (by decide), slice_read arg2 harg2 x 6 (by decide), slice_read arg2 harg2 x 7 (by decide), slice_read arg2 harg2 x 8 (by decide), slice_read arg2 harg2 x 9 (by decide), slice_read arg2 harg2 x 10 (by decide), slice_read arg2 harg2 x 11 (by decide), slice_read arg2 harg2 x 12 (by decide), slice_read arg2 harg2 x 13 (by decide), slice_read arg2 harg2 x 14 (by decide), slice_read arg2 harg2 x 15 (by decide), slice_read arg2 harg2 x 16 (by decide), slice_read arg2 harg2 x 17 (by decide), slice_read arg2 harg2 x 18 (by decide), slice_read arg2 harg2 x 19 (by decide)]
    rfl
  sl_for (fun k _ => loopI c i arg1 harg1 arg5 arg6 arg7 lb (sOf x) acc0 cnt0 k) $$ [H1 H5 H6 H7]
  case region =>
    intro k _
    exact loopI_step c i arg1 harg1 arg2 harg2 arg3 harg3 arg4 harg4 arg5 harg5 arg6 harg6 arg7 harg7 lb (sOf x) acc0 cnt0 hlab k
  · unfold loopI tripRes owns
    isplitl [H1]; · iexact H1
    isplitl [H6]
    · iexists _; isplitr; swap; · iexact H6
      ipureintro; exact e6
    isplitl [H5]
    · iexists _; isplitr; swap; · iexact H5
      ipureintro; exact (whole_stored arg5 _ _ _ _ _)
    · iexists _; isplitr; swap; · iexact H7
      ipureintro; exact (cnt0_stored arg7 _ _)
  iintro %_ HI
  ihave HI := (loopI_end c i arg1 harg1 arg5 arg6 arg7 lb (sOf x) acc0 cnt0) $$ HI
  unfold tripRes owns
  icases HI with ⟨H1, ⟨%g6, %hg6, H6⟩, ⟨%g5, %hg5, H5⟩, ⟨%g7, %hg7, H7⟩⟩
  sl_exec (disch := first | sl_exact h1 | sl_exact h2)
  sl_step
  iapply Hk
  isplitl [H1]; · iexact H1
  isplitl [H2]
  · iexists _; isplitr; swap; · iexact H2
    ipureintro; exact h2'
  isplitl [H5]
  · iexists _; isplitr; swap; · iexact H5
    ipureintro; exact hg5
  isplitl [H6]
  · iexists _; iexists _; isplitr; swap; · iexact H6
    ipureintro; rfl
  · iexists _; isplitr; swap; · iexact H7
    ipureintro; exact hg7

/-- A load of row `r` of the accumulator. -/
theorem row_read (A : Vec F S10x8x128 .f32) (r : ℕ) (hr : r < 10) (h : ∀ a, (![r, 0, 0] : Fin 3 → ℕ) a + S1x8x128.size a ≤ S10x8x128.size a) :
    arg5.view.readAt (Elt F) (Rect.unit (s := S10x8x128) ![r, 0, 0] S1x8x128.size h).toLoadRect (harg5.unread A) = rowOf A r := by
  funext y
  rw [harg5.readAt_unread]
  unfold rowOf
  congr 1
  funext a; apply Fin.ext; fin_cases a
  · have : (y 0).val < 1 := (y 0).isLt
    show r + 1 * (y 0).val = r % 10; omega
  · show 0 + 1 * (y 1).val = (y 1).val; omega
  · show 0 + 1 * (y 2).val = (y 2).val; omega

/-- A load of count `r`. -/
theorem cell_read (N : Vec F S10 .i32) (r : ℕ) (hr : r < 10) (h : ∀ a, (![r] : Fin 1 → ℕ) a + S1.size a ≤ S10.size a)
    (y : (Rect.unit (s := S10) ![r] S1.size h).toLoadRect.shape.Idx) :
    arg7.view.readAt (Elt F) (Rect.unit (s := S10) ![r] S1.size h).toLoadRect (harg7.unread N) y = N (ix1 (n0 := 10) (Fin.ofNat 10 r)) := by
  rw [harg7.readAt_unread]
  congr 1
  funext a; apply Fin.ext; fin_cases a
  have : (y 0).val < 1 := (y 0).isLt
  show r + 1 * (y 0).val = r % 10; omega

/-- One step of reading the rows stored into the rates: row `r` is the newest piece's, the others what the rest left. -/
theorem row_stored_step (f : arg3.view.ty.Contents (Elt F)) (G : Vec F S10x8x128 .f32) (r : ℕ) (h : ∀ a, (![r, 0, 0] : Fin 3 → ℕ) a + S1x8x128.size a ≤ S10x8x128.size a)
    (w : Vec F S1x8x128 .f32) (L : List (View.Piece (Elt F) S10x8x128 .f32))
    (hw : ∀ y : S10x8x128.Idx, (y 0).val = r → w (ix3 (n0 := 1) (n1 := 8) (n2 := 128) 0 (y 1) (y 2)) = G y)
    (hL : ∀ y : S10x8x128.Idx, (y 0).val < r → arg3.view.read (Elt F) (arg3.view.writes (Elt F) f L) y = G y) :
    ∀ y : S10x8x128.Idx, (y 0).val < r + 1 →
      arg3.view.read (Elt F) (arg3.view.writes (Elt F) f ((⟨Rect.unit ![r, 0, 0] S1x8x128.size h, w⟩ : View.Piece (Elt F) S10x8x128 .f32) :: L)) y = G y := by
  intro y hy
  by_cases e : (y 0).val = r
  · rw [← hw y e]
    refine View.read_writes_cons_unit_of_mem arg3.view f h w L y (ix3 (n0 := 1) (n1 := 8) (n2 := 128) 0 (y 1) (y 2)) rfl ?_
    intro a; fin_cases a
    · exact e
    · exact (Nat.zero_add _).symm
    · exact (Nat.zero_add _).symm
  · rw [View.read_writes_cons_unit_of_not_mem arg3.view f h w L y rfl 0 (by
      show (y 0).val < r ∨ r + 1 ≤ (y 0).val; omega)]
    exact hL y (by omega)

/-- A row of means as it is stored is the row of the rates. -/
theorem mean_row (N : Vec F S10 .i32) (A : Vec F S10x8x128 .f32) (r : ℕ) (y : S10x8x128.Idx) (hy : (y 0).val = r) :
    k0_pay5 (N (ix1 (n0 := 10) (Fin.ofNat 10 r))) (rowOf A r) (ix3 (n0 := 1) (n1 := 8) (n2 := 128) 0 (y 1) (y 2)) = rOut N A y := by
  unfold rOut
  rw [hy]
  unfold meanRow k0_pay5
  generalize k0_pay4 (N (ix1 (n0 := 10) (Fin.ofNat 10 r))) (rowOf A r) = v
  generalize y 1 = p; generalize y 2 = q
  pointwise []

set_option maxHeartbeats 4000000 in
/-- The last point adds its block and stores the rates and the assignments. -/
theorem run_last (lb : Vec F S4096 .i32) (x : Vec F S128x20x8x128 .f32) (a : Vec F S10x8x128 .f32) (n : Vec F S10 .i32)
   (hlab : ∀ y, (lb y : BitVec 32).toNat < 10) (h1 : ¬ cond1 i) (h2 :  cond2 i) (K : PUnit → sProp 𝕄) :
   iprop(tbPt c arg1 (harg1.unread lb) ∗ owns (c : Thread nD τ) arg2 fullShare x ∗ (∃ d, owns (c : Thread nD τ) arg3 fullShare d) ∗ (∃ d, owns (c : Thread nD τ) arg4 fullShare d) ∗ owns (c : Thread nD τ) arg5 fullShare a
     ∗ (∃ d, owns (c : Thread nD τ) arg6 fullShare d) ∗ owns (c : Thread nD τ) arg7 fullShare n
     ∗ (iprop(tbPt c arg1 (harg1.unread lb) ∗ owns (c : Thread nD τ) arg2 fullShare x ∗ owns (c : Thread nD τ) arg3 fullShare (rOut (cntL lb (i 0).val n 128) (accL lb (i 0).val (sOf x) a 128)) ∗ owns (c : Thread nD τ) arg4 fullShare (gOut (cntL lb (i 0).val n 128) (accL lb (i 0).val (sOf x) a 128))
         ∗ owns (c : Thread nD τ) arg5 fullShare (accL lb (i 0).val (sOf x) a 128)
         ∗ (∃ d, owns (c : Thread nD τ) arg6 fullShare d) ∗ owns (c : Thread nD τ) arg7 fullShare (cntL lb (i 0).val n 128)) -∗ K ⟨⟩))
   ⊢ wp frame (wpE (defs₀ (F := F)) Variants.none (c : Thread nD τ) none) Set.univ (cc0__body (F := F) i arg1 harg1 arg2 harg2 arg3 harg3 arg4 harg4 arg5 harg5 arg6 harg6 arg7 harg7) K := by
  simp only [cc0__body_eq_skeleton]; unfold cc0__body_skel
  simp only [k0_part5_eq_skeleton, k0_part6_eq_skeleton, k0_part1_eq_skeleton, k0_part2_eq_skeleton, k0_part3_eq_skeleton, k0_part4_eq_skeleton]
  unfold owns
  iintro ⟨H1, ⟨%f2, %h2', H2⟩, ⟨%d3, %f3, -, H3⟩, ⟨%d4, %f4, -, H4⟩, ⟨%f5, %h5, H5⟩, ⟨%d6, %f6, -, H6⟩, ⟨%f7, %h7, H7⟩, Hk⟩
  obtain rfl := harg2.eq_unread h2'; obtain rfl := harg5.eq_unread h5; obtain rfl := harg7.eq_unread h7
  sl_unfold [k0_part5_skel, k0_part6_skel, k0_part1_skel, k0_part2_skel, k0_part3_skel, k0_part4_skel]
  sl_exec (disch := first | sl_exact h1 | sl_exact h2)
  have e6 : arg6.view.read (Elt F) (arg6.view.writes (Elt F) arg6.view.junk (run_last.sl.H6_1 c i arg2 harg2 x)) = sOf x := by
    refine (whole_stored arg6 _ _ _ _ _).trans ?_
    unfold run_last.sl.v49 run_last.sl.v52 run_last.sl.v55
    simp only [slice_read arg2 harg2 x 0 (by decide), slice_read arg2 harg2 x 1 (by decide), slice_read arg2 harg2 x 2 (by decide), slice_read arg2 harg2 x 3 (by decide), slice_read arg2 harg2 x 4 (by decide), slice_read arg2 harg2 x 5 (by decide), slice_read arg2 harg2 x 6 (by decide), slice_read arg2 harg2 x 7 (by decide), slice_read arg2 harg2 x 8 (by decide), slice_read arg2 harg2 x 9 (by decide), slice_read arg2 harg2 x 10 (by decide), slice_read arg2 harg2 x 11 (by decide), slice_read arg2 harg2 x 12 (by decide), slice_read arg2 harg2 x 13 (by decide), slice_read arg2 harg2 x 14 (by decide), slice_read arg2 harg2 x 15 (by decide), slice_read arg2 harg2 x 16 (by decide), slice_read arg2 harg2 x 17 (by decide), slice_read arg2 harg2 x 18 (by decide), slice_read arg2 harg2 x 19 (by decide)]
    rfl
  sl_for (fun k _ => loopI c i arg1 harg1 arg5 arg6 arg7 lb (sOf x) a n k) $$ [H1 H5 H6 H7]
  case region =>
    intro k _
    exact loopI_step c i arg1 harg1 arg2 harg2 arg3 harg3 arg4 harg4 arg5 harg5 arg6 harg6 arg7 harg7 lb (sOf x) a n hlab k
  · unfold loopI tripRes owns
    isplitl [H1]; · iexact H1
    isplitl [H6]
    · iexists _; isplitr; swap; · iexact H6
      ipureintro; exact e6
    isplitl [H5]
    · iexists _; isplitr; swap; · iexact H5
      ipureintro; exact h5
    · iexists _; isplitr; swap; · iexact H7
      ipureintro; exact h7
  iintro %_ HI
  ihave HI := (loopI_end c i arg1 harg1 arg5 arg6 arg7 lb (sOf x) a n) $$ HI
  unfold tripRes owns
  icases HI with ⟨H1, ⟨%g6, %hg6, H6⟩, ⟨%g5, %hg5, H5⟩, ⟨%g7, %hg7, H7⟩⟩
  obtain rfl := harg5.eq_unread hg5; obtain rfl := harg7.eq_unread hg7
  sl_exec (disch := first | sl_exact h1 | sl_exact h2)
  have er0 : run_last.sl.r c i arg7 harg7 lb n = (cntL lb (i 0).val n 128) (ix1 (n0 := 10) (Fin.ofNat 10 0)) := by
    unfold run_last.sl.r; exact cell_read arg7 harg7 _ 0 (by decide) _ _
  have ev0 : run_last.sl.v70 c i arg5 harg5 lb x a = rowOf (accL lb (i 0).val (sOf x) a 128) 0 := by
    unfold run_last.sl.v70; exact row_read arg5 harg5 _ 0 (by decide) _
  have er1 : run_last.sl.r_1 c i arg7 harg7 lb n = (cntL lb (i 0).val n 128) (ix1 (n0 := 10) (Fin.ofNat 10 1)) := by
    unfold run_last.sl.r_1; exact cell_read arg7 harg7 _ 1 (by decide) _ _
  have ev1 : run_last.sl.v83 c i arg5 harg5 lb x a = rowOf (accL lb (i 0).val (sOf x) a 128) 1 := by
    unfold run_last.sl.v83; exact row_read arg5 harg5 _ 1 (by decide) _
  have er2 : run_last.sl.r_2 c i arg7 harg7 lb n = (cntL lb (i 0).val n 128) (ix1 (n0 := 10) (Fin.ofNat 10 2)) := by
    unfold run_last.sl.r_2; exact cell_read arg7 harg7 _ 2 (by decide) _ _
  have ev2 : run_last.sl.v96 c i arg5 harg5 lb x a = rowOf (accL lb (i 0).val (sOf x) a 128) 2 := by
    unfold run_last.sl.v96; exact row_read arg5 harg5 _ 2 (by decide) _
  have er3 : run_last.sl.r_3 c i arg7 harg7 lb n = (cntL lb (i 0).val n 128) (ix1 (n0 := 10) (Fin.ofNat 10 3)) := by
    unfold run_last.sl.r_3; exact cell_read arg7 harg7 _ 3 (by decide) _ _
  have ev3 : run_last.sl.v109 c i arg5 harg5 lb x a = rowOf (accL lb (i 0).val (sOf x) a 128) 3 := by
    unfold run_last.sl.v109; exact row_read arg5 harg5 _ 3 (by decide) _
  have er4 : run_last.sl.r_4 c i arg7 harg7 lb n = (cntL lb (i 0).val n 128) (ix1 (n0 := 10) (Fin.ofNat 10 4)) := by
    unfold run_last.sl.r_4; exact cell_read arg7 harg7 _ 4 (by decide) _ _
  have ev4 : run_last.sl.v122 c i arg5 harg5 lb x a = rowOf (accL lb (i 0).val (sOf x) a 128) 4 := by
    unfold run_last.sl.v122; exact row_read arg5 harg5 _ 4 (by decide) _
  have er5 : run_last.sl.r_5 c i arg7 harg7 lb n = (cntL lb (i 0).val n 128) (ix1 (n0 := 10) (Fin.ofNat 10 5)) := by
    unfold run_last.sl.r_5; exact cell_read arg7 harg7 _ 5 (by decide) _ _
  have ev5 : run_last.sl.v135 c i arg5 harg5 lb x a = rowOf (accL lb (i 0).val (sOf x) a 128) 5 := by
    unfold run_last.sl.v135; exact row_read arg5 harg5 _ 5 (by decide) _
  have er6 : run_last.sl.r_6 c i arg7 harg7 lb n = (cntL lb (i 0).val n 128) (ix1 (n0 := 10) (Fin.ofNat 10 6)) := by
    unfold run_last.sl.r_6; exact cell_read arg7 harg7 _ 6 (by decide) _ _
  have ev6 : run_last.sl.v148 c i arg5 harg5 lb x a = rowOf (accL lb (i 0).val (sOf x) a 128) 6 := by
    unfold run_last.sl.v148; exact row_read arg5 harg5 _ 6 (by decide) _
  have er7 : run_last.sl.r_7 c i arg7 harg7 lb n = (cntL lb (i 0).val n 128) (ix1 (n0 := 10) (Fin.ofNat 10 7)) := by
    unfold run_last.sl.r_7; exact cell_read arg7 harg7 _ 7 (by decide) _ _
  have ev7 : run_last.sl.v161 c i arg5 harg5 lb x a = rowOf (accL lb (i 0).val (sOf x) a 128) 7 := by
    unfold run_last.sl.v161; exact row_read arg5 harg5 _ 7 (by decide) _
  have er8 : run_last.sl.r_8 c i arg7 harg7 lb n = (cntL lb (i 0).val n 128) (ix1 (n0 := 10) (Fin.ofNat 10 8)) := by
    unfold run_last.sl.r_8; exact cell_read arg7 harg7 _ 8 (by decide) _ _
  have ev8 : run_last.sl.v174 c i arg5 harg5 lb x a = rowOf (accL lb (i 0).val (sOf x) a 128) 8 := by
    unfold run_last.sl.v174; exact row_read arg5 harg5 _ 8 (by decide) _
  have er9 : run_last.sl.r_9 c i arg7 harg7 lb n = (cntL lb (i 0).val n 128) (ix1 (n0 := 10) (Fin.ofNat 10 9)) := by
    unfold run_last.sl.r_9; exact cell_read arg7 harg7 _ 9 (by decide) _ _
  have ev9 : run_last.sl.v187 c i arg5 harg5 lb x a = rowOf (accL lb (i 0).val (sOf x) a 128) 9 := by
    unfold run_last.sl.v187; exact row_read arg5 harg5 _ 9 (by decide) _
  sl_step
  iapply Hk
  isplitl [H1]; · iexact H1
  isplitl [H2]
  · iexists _; isplitr; swap; · iexact H2
    ipureintro; exact h2'
  isplitl [H3]
  · iexists _; isplitr; swap; · iexact H3
    ipureintro
    simp only [er0, ev0, er1, ev1, er2, ev2, er3, ev3, er4, ev4, er5, ev5, er6, ev6, er7, ev7, er8, ev8, er9, ev9]
    funext y
    have hy : (y 0).val < 9 + 1 := (y 0).isLt
    revert y
    iterate 10
      refine row_stored_step arg3 _ (rOut (cntL lb (i 0).val n 128) (accL lb (i 0).val (sOf x) a 128)) _ _ _ _ (fun y hy => ?_) ?_
      · exact mean_row (cntL lb (i 0).val n 128) (accL lb (i 0).val (sOf x) a 128) _ y hy
    intro y hy; omega
  isplitl [H4]
  · iexists _; isplitr; swap; · iexact H4
    ipureintro
    simp only [er0, ev0, er1, ev1, er2, ev2, er3, ev3, er4, ev4, er5, ev5, er6, ev6, er7, ev7, er8, ev8, er9, ev9]
    refine (whole_stored arg4 _ _ _ _ _).trans ?_
    rfl
  isplitl [H5]
  · iexists _; isplitr; swap; · iexact H5
    ipureintro; exact harg5.read_unread _
  isplitl [H6]
  · iexists _; iexists _; isplitr; swap; · iexact H6
    ipureintro; rfl
  · iexists _; isplitr; swap; · iexact H7
    ipureintro; exact harg7.read_unread _

end Body

end Cert.KernelIdeal.Run
-- ==== Proof.DataI.lean ====
module

public import proofs.«01_k».proof.Proof.BodyI
public import Idealize.ShloMosaic.Lib.Pipeline.ValueKit
public import Idealize.ShloMosaic.Lib.Pipeline.FrameSuffix0

/-! What the pipeline's buffers hold point by point: the blocks of the spikes, the two accumulators after each point, the outputs. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The accumulators over the points -/

/-- The accumulator after point `t`, over blocks `xs`. -/
def accT (lb : Vec F S4096 .i32) (xs : ℕ → Vec F S128x20x8x128 .f32) : ℕ → Vec F S10x8x128 .f32
  | 0 => accL lb 0 (sOf (xs 0)) acc0 128
  | t + 1 => accL lb (t + 1) (sOf (xs (t + 1))) (accT lb xs t) 128

/-- The counts after point `t`. -/
def cntT (lb : Vec F S4096 .i32) : ℕ → Vec F S10 .i32
  | 0 => cntL lb 0 cnt0 128
  | t + 1 => cntL lb (t + 1) (cntT lb t) 128

/-- Block `t` of the regrouped spikes. -/
def blkOf (x : Vec F S4096x20x8x128 .f32) (t : ℕ) : Vec F S128x20x8x128 .f32 :=
  fun y => x (ix4 (n0 := 4096) (n1 := 20) (n2 := 8) (n3 := 128) (Fin.ofNat 4096 (128 * t + (y 0).val)) (y 1) (y 2) (y 3))

/-! ## Memory when the region starts -/

variable (m : (ℓ : Loc nD τ sig) → Buf (Elt F) ℓ) (ρ : Dev nD → PrngReg)

/-- Everything a core holds when the region starts. -/
def V0 (c : Dev nD) : Valuation τ sig (Elt F) := StableHlo.after (List.flatten [hostOps0]) (fun b => m (c, b))

/-- The same, by TensorCore buffer. -/
abbrev V (c : Dev nD) (b : Ref sig .tc) : Buf (Elt F) ((c : Thread nD τ).loc b) := V0 m c (Proc.devRef .tc b)

/-- No host operation before the region creates a buffer. -/
theorem hostOps0_fresh : (hostOps0 : List (HloOp τ sig (Elt F))).Forall fun op => op.fresh = ∅ := by
  simp only [List.Forall]; repeat' constructor
/-- No host operation after the region creates a buffer. -/
theorem hostOps1_fresh : (hostOps1 : List (HloOp τ sig (Elt F))).Forall fun op => op.fresh = ∅ := by
  simp only [List.Forall]; repeat' constructor

/-- The spikes reach the region as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    all_goals exact StableHlo.devRef_ne_of_ne (by decide)))
/-- The labels reach the region as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    all_goals exact StableHlo.devRef_ne_of_ne (by decide)))

/-- The prefetched table: the labels. -/
def tbl : pre0.Contents (Elt F) := fun j => V m (0 : Dev nD) (pre0.ref j)
/-- Every core holds the table the region prefetches. -/
theorem V_pre (c : Dev nD) (j : Fin 1) : V m c (pre0.ref j) = tbl m j := by
  obtain rfl : c = 0 := Subsingleton.elim _ _; rfl
/-- The table puts no condition on the pipeline. -/
theorem ok : ok0 (F := F) (tbl m) := trivial
/-- The table as admissible contents. -/
abbrev adm : (pcfg0 (F := F)).Adm := ⟨tbl m, ok m⟩
/-- The pipeline at that table. -/
abbrev cfgM : Pipeline.Cfg sig Λ₀ := cfg0 (adm m)

/-- The labels. -/
abbrev lbl : Vec F S4096 .i32 := tbl m 0

/-- The region's table halves are the right to read the labels. -/
theorem PhiT_eq (c : Dev nD) : (Pipeline.ΦT pre0 (tbl m) c : sProp 𝕄)
    = iprop(tbPt c (Memref.whole main_arg1) ((Memref.isWhole_whole main_arg1).unread (lbl m))) := by
  unfold Pipeline.ΦT Pipeline.prefHeld
  rw [show (Finset.univ : Finset (Fin 1)) = {(0 : Fin 1)} from by decide, bigSep_singleton,
    ← (Memref.isWhole_whole main_arg1).eq_unread (f := tbl m 0) (X := lbl m) rfl]
  rfl

/-- Window `w`'s block at point `t`, as the region finds its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A point's coordinate is its number. -/
theorem coord_val (t : Fin grid0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The input window's block at point `t` is block `t` of the regrouped spikes. -/
theorem iblk_eq (c : Dev nD) (t : Fin (cfgM m).N) : (iblk m c 0 t : Vec F S128x20x8x128 .f32) = blkOf (V m c main_call0_v0) t.val := by
  have ht : t.val < 32 := Nat.lt_of_lt_of_eq t.isLt N_0
  have e0 := coord_val t
  funext (y : S128x20x8x128.Idx)
  have h0 : (y 0).val < 128 := (y 0).isLt
  show V m c main_call0_v0 ((((cfgM m).win 0).blk t).view.emb y) = V m c main_call0_v0 _
  congr 1
  funext a; apply Fin.ext
  have i0 : ((cfgM m).win 0).index t (0 : Fin 4) = t.val := by
    show (BitVec.ofNat 32 (grid0.coords t 0).val).toNat = t.val
    rw [e0, BitVec.toNat_ofNat]; omega
  fin_cases a
  · blk_simp
    show ((cfgM m).win 0).index t (0 : Fin 4) * 128 + (y 0).val = (128 * t.val + (y 0).val) % 4096
    rw [i0]; omega
  · blk_simp
    show 0 * 20 + (y 1).val = (y 1).val
    omega
  · blk_simp
    show 0 * 8 + (y 2).val = (y 2).val
    omega
  · blk_simp
    show 0 * 128 + (y 3).val = (y 3).val
    omega

/-- The input window's buffer holds its block at every point. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The accumulator after point `t` of this run. -/
abbrev accM (c : Dev nD) (t : ℕ) : Vec F S10x8x128 .f32 := accT (lbl m) (blkOf (V m c main_call0_v0)) t
/-- The counts after point `t` of this run. -/
abbrev cntM (t : ℕ) : Vec F S10 .i32 := cntT (lbl m) t

/-- The scratch buffers' invariant before point `n`: at anything before the first, then at what the point before left. -/
def PhiS (c : Dev nD) : (n : ℕ) → sProp 𝕄
  | 0 => Pipeline.scopedRest (Ix := Unit) (Name := ℕ) (U := Pipeline.UD sig nD τ) (Lvl := ℕ) (Val := Elt F) spec0 c
  | n + 1 => iprop(owns (c : Thread nD τ) (Memref.whole cc0_scratch0) fullShare (accM m c n)
      ∗ (∃ d, owns (c : Thread nD τ) (Memref.whole cc0_scratch1) fullShare d)
      ∗ owns (c : Thread nD τ) (Memref.whole cc0_scratch2) fullShare (cntM m n))

/-- The pipeline's proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => rOut (cntM m t.val) (accM m c t.val)
    | ⟨2, _⟩ => gOut (cntM m t.val) (accM m c t.val)
  Φ t := iprop(PhiS m c t.val ∗ Pipeline.ΦT pre0 (tbl m) c)
  q _ := fullShare
  owed _ := 0

/-- Each window's array starts as the region finds it. -/
theorem A_eq (c : Dev nD) (w : Fin (cfgM m).W) : (dats m 0 c).A w = V m c (Pipeline.arrRef spec0 w) := by dsimp only [dats]
/-- The input window's buffer ends each point with its block. -/
theorem after_0 (c : Dev nD) (t : Fin (cfgM m).N) : (dats m 0 c).after 0 t = iblk m c 0 t := by dsimp only [dats]; try rfl
/-- The first output window's buffer ends each point with the rates of the accumulators so far. -/
theorem after_1 (c : Dev nD) (t : Fin (cfgM m).N) : (dats m 0 c).after 1 t = rOut (cntM m t.val) (accM m c t.val) := by dsimp only [dats]; try rfl
/-- The second output window's buffer ends each point with the assignments of the accumulators so far. -/
theorem after_2 (c : Dev nD) (t : Fin (cfgM m).N) : (dats m 0 c).after 2 t = gOut (cntM m t.val) (accM m c t.val) := by dsimp only [dats]; try rfl
/-- The input window's buffer starts each point with its block. -/
theorem before_0 (c : Dev nD) (t : Fin (cfgM m).N) (d) : (dats m 0 c).before 0 t d = iblk m c 0 t :=
  before0_of m (dats m 0 c) (A_eq m c 0) (after_0 m c) t d

/-- The first test holds at point 0 alone. -/
theorem hcond1 (t : Fin grid0.N) : cond1 (grid0.coords t) ↔ t.val = 0 := by
  have ht : t.val < 32 := Nat.lt_of_lt_of_eq t.isLt N_0
  simp only [cond1, coord_val]
  word_cmp
/-- The last test holds at point 31 alone. -/
theorem hcond2 (t : Fin grid0.N) : cond2 (grid0.coords t) ↔ t.val = 31 := by
  have ht : t.val < 32 := Nat.lt_of_lt_of_eq t.isLt N_0
  simp only [cond2, k0_cond2, coord_val]
  word_cmp

/-- The outputs are written back at the last point alone. -/
theorem flush_1 (t : Fin (cfgM m).N) : ((cfgM m).win 1).flush t = true ↔ t.val % 32 = 31 :=
  Pipeline.Window.flushOf_const cc0_transform_1 (fun _ _ => rfl) N_0 rfl t
/-- The second output is written back after the last point alone. -/
theorem flush_2 (t : Fin (cfgM m).N) : ((cfgM m).win 2).flush t = true ↔ t.val % 32 = 31 :=
  Pipeline.Window.flushOf_const cc0_transform_2 (fun _ _ => rfl) N_0 rfl t

end Cert.KernelIdeal.Run

end
-- ==== Proof.ObligI.lean ====
module

public import proofs.«01_k».proof.Proof.DataI

/-! The body's obligation at every grid point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The current staging buffers. -/
abbrev ms0 (t : Fin (cfgM m).N) : Memref sig .tc .vmem S128x20x8x128 .f32 := spec0_0.stage ((cfgM m).slots t 0)
/-- The first output window's buffer at a point. -/
abbrev ms1 (t : Fin (cfgM m).N) : Memref sig .tc .vmem S10x8x128 .f32 := spec0_1.stage ((cfgM m).slots t 1)
/-- The second output window's buffer at a point. -/
abbrev ms2 (t : Fin (cfgM m).N) : Memref sig .tc .vmem S8x128 .i32 := spec0_2.stage ((cfgM m).slots t 2)

/-- The body at point `t`, on what the pipeline calls it with. -/
abbrev bodyAt (t : Fin (cfgM m).N) : Prog (TpuEff nD τ sig (Elt F) Λ₀ .tc) PUnit :=
  cc0__body (grid0.coords t) (Memref.whole main_arg1) (Memref.isWhole_whole _) (ms0 m t) (hstage0_0 (((cfgM m).slots t 0).cast nbuf0_0))
    (ms1 m t) (hstage0_1 (((cfgM m).slots t 1).cast nbuf0_1)) (ms2 m t) (hstage0_2 (((cfgM m).slots t 2).cast nbuf0_2))
    (Memref.whole cc0_scratch0) (Memref.isWhole_whole _) (Memref.whole cc0_scratch1) (Memref.isWhole_whole _) (Memref.whole cc0_scratch2) (Memref.isWhole_whole _)

/-- What the body is called with at point `t`. -/
def bodyPre (c : Dev nD) (t : Fin (cfgM m).N) : sProp 𝕄 :=
  iprop((PhiS m c t.val ∗ tbPt c (Memref.whole main_arg1) ((Memref.isWhole_whole main_arg1).unread (lbl m))) ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- What it returns. -/
def bodyPost (c : Dev nD) (t : Fin (cfgM m).N) : sProp 𝕄 :=
  iprop((PhiS m c (t.val + 1) ∗ tbPt c (Memref.whole main_arg1) ((Memref.isWhole_whole main_arg1).unread (lbl m))) ∗ (dats m 0 c).owesAt () t.castSucc
    ∗ owns (c : Thread nD τ) (ms0 m t) fullShare (iblk m c 0 t)
    ∗ (dats m 0 c).leavesExact 1 t ∗ (dats m 0 c).leavesExact 2 t)

/-- Away from the last point the outputs' buffers are handed back as found. -/
theorem leaves_idle (c : Dev nD) (t : Fin (cfgM m).N) (h : t.val ≠ 31) :
    (dats m 0 c).leavesExact 1 t = iprop(∃ d, owns (c : Thread nD τ) (ms1 m t) fullShare ((dats m 0 c).before 1 t d))
    ∧ (dats m 0 c).leavesExact 2 t = iprop(∃ d, owns (c : Thread nD τ) (ms2 m t) fullShare ((dats m 0 c).before 2 t d)) := by
  have ht : t.val < 32 := Nat.lt_of_lt_of_eq t.isLt N_0
  have hi : (!(k0_cond2 (grid0.coords t) == 1#1)) = true := by
    have := mt (hcond2 t).mp h
    simpa [cond2] using this
  constructor
  · exact (dats m 0 c).leavesExact_idle 1 t hi (by
      have := flush_1 m t; rw [Bool.eq_false_iff]; intro e; have := this.mp e; omega)
  · exact (dats m 0 c).leavesExact_idle 2 t hi (by
      have := flush_2 m t; rw [Bool.eq_false_iff]; intro e; have := this.mp e; omega)

/-- At the last point they hold the results. -/
theorem leaves_last (c : Dev nD) (t : Fin (cfgM m).N) (h : t.val = 31) :
    (dats m 0 c).leavesExact 1 t = owns (c : Thread nD τ) (ms1 m t) fullShare (rOut (cntM m t.val) (accM m c t.val))
    ∧ (dats m 0 c).leavesExact 2 t = owns (c : Thread nD τ) (ms2 m t) fullShare (gOut (cntM m t.val) (accM m c t.val)) := by
  have hc : k0_cond2 (grid0.coords t) = 1#1 := (hcond2 t).mpr h
  have hi1 : (cfgM m).idle 1 ((cfgM m).grid.coords t) = false := by
    show (!(k0_cond2 (grid0.coords t) == 1#1)) = false
    rw [hc]; rfl
  have hi2 : (cfgM m).idle 2 ((cfgM m).grid.coords t) = false := by
    show (!(k0_cond2 (grid0.coords t) == 1#1)) = false
    rw [hc]; rfl
  constructor
  · unfold Dat.leavesExact; rw [hi1]; dsimp only; rw [after_1]; rfl
  · unfold Dat.leavesExact; rw [hi2]; dsimp only; rw [after_2]; rfl

/-- The scratch buffers before the first point. -/
theorem PhiS_zero (c : Dev nD) : PhiS m c 0 ⊢ iprop(∃ a, ∃ n, owns (c : Thread nD τ) (Memref.whole cc0_scratch0) fullShare a
      ∗ (∃ d, owns (c : Thread nD τ) (Memref.whole cc0_scratch1) fullShare d)
      ∗ owns (c : Thread nD τ) (Memref.whole cc0_scratch2) fullShare n : sProp 𝕄) := by
  unfold PhiS
  rw [scopedRest0_eq]
  iintro ⟨⟨%f0, H0⟩, ⟨%f1, H1⟩, ⟨%f2, H2⟩⟩
  iexists f0; iexists f2
  rw [owns_whole, owns_whole]
  isplitl [H0]; · iexact H0
  isplitl [H1]
  · iexists f1; rw [owns_whole]; iexact H1
  iexact H2

/-- The scratch buffers after point `n`. -/
theorem PhiS_succ (c : Dev nD) (n : ℕ) : PhiS m c (n + 1) = iprop(owns (c : Thread nD τ) (Memref.whole cc0_scratch0) fullShare (accM m c n)
      ∗ (∃ d, owns (c : Thread nD τ) (Memref.whole cc0_scratch1) fullShare d)
      ∗ owns (c : Thread nD τ) (Memref.whole cc0_scratch2) fullShare (cntM m n) : sProp 𝕄) := rfl

/-- The scratch buffers before any point, whatever they hold. -/
theorem PhiS_any (c : Dev nD) (n : ℕ) : PhiS m c n ⊢ (PhiS m c 0 : sProp 𝕄) := by
  cases n with
  | zero => exact .rfl
  | succ n =>
    rw [PhiS_succ, show PhiS m c 0 = Pipeline.scopedRest (Ix := Unit) (Name := ℕ) (U := Pipeline.UD sig nD τ) (Lvl := ℕ) (Val := Elt F) spec0 c from rfl, scopedRest0_eq]
    simp only [owns_whole]
    iintro ⟨H0, ⟨%d, H1⟩, H2⟩
    isplitl [H0]; · iexists _; iexact H0
    isplitl [H1]; · iexists _; iexact H1
    iexists _; iexact H2

variable (hlab : ∀ y, (lbl m y : BitVec 32).toNat < 10)
include hlab

/-- The body at any point. -/
theorem sound_body (c : Dev nD) (t : Fin (cfgM m).N) :
    bodyPre m c t ⊢ wp frame (wpE (defs₀ (F := F)) Variants.none (c : Thread nD τ) none) Set.univ (bodyAt m t) (fun _ => bodyPost m c t) := by
  have ht : t.val < 32 := Nat.lt_of_lt_of_eq t.isLt N_0
  have hv := coord_val t
  unfold bodyPre bodyPost bodyAt
  simp only [before_0]
  by_cases hz : t.val = 0
  · have hn : t.val ≠ 31 := by omega
    rw [(leaves_idle m c t hn).1, (leaves_idle m c t hn).2, PhiS_succ, hz]
    iintro ⟨⟨HΦ, HT⟩, Ho, ⟨%d0, H0⟩, ⟨%d1, H1⟩, ⟨%d2, H2⟩⟩
    ihave HΦ := (PhiS_zero m c) $$ HΦ
    icases HΦ with ⟨%a, %n, HA, HS, HN⟩
    iapply (run_init c (grid0.coords t) _ _ _ _ _ _ _ _ _ _ _ _ _ _ (lbl m) (iblk m c 0 t) a n hlab ((hcond1 t).mpr hz) (mt (hcond2 t).mp hn) _)
    isplitl [HT]; · iexact HT
    isplitl [H0]; · iexact H0
    isplitl [HA]; · iexact HA
    isplitl [HS]; · iexact HS
    isplitl [HN]; · iexact HN
    rw [hv, hz, iblk_eq, hz]
    iintro ⟨HT, H0, HA, HS, HN⟩
    isplitl [HT HA HS HN]
    · isplitr [HT]
      · isplitl [HA]; · iexact HA
        isplitl [HS]; · iexact HS
        iexact HN
      iexact HT
    isplitl [Ho]; · iexact Ho
    isplitl [H0]; · iexact H0
    isplitl [H1]; · iexists _; iexact H1
    iexists _; iexact H2
  · obtain ⟨p, hp⟩ := Nat.exists_eq_succ_of_ne_zero hz
    have hp : t.val = p + 1 := hp
    by_cases hn : t.val = 31
    · rw [(leaves_last m c t hn).1, (leaves_last m c t hn).2, PhiS_succ, hp, PhiS_succ]
      iintro ⟨⟨⟨HA, HS, HN⟩, HT⟩, Ho, ⟨%d0, H0⟩, ⟨%d1, H1⟩, ⟨%d2, H2⟩⟩
      iapply (run_last c (grid0.coords t) _ _ _ _ _ _ _ _ _ _ _ _ _ _ (lbl m) (iblk m c 0 t) (accM m c p) (cntM m p) hlab (mt (hcond1 t).mp hz) ((hcond2 t).mpr hn) _)
      isplitl [HT]; · iexact HT
      isplitl [H0]; · iexact H0
      isplitl [H1]; · iexists _; iexact H1
      isplitl [H2]; · iexists _; iexact H2
      isplitl [HA]; · iexact HA
      isplitl [HS]; · iexact HS
      isplitl [HN]; · iexact HN
      rw [hv, iblk_eq, hp]
      iintro ⟨HT, H0, H1, H2, HA, HS, HN⟩
      isplitl [HT HA HS HN]
      · isplitr [HT]
        · isplitl [HA]; · iexact HA
          isplitl [HS]; · iexact HS
          iexact HN
        iexact HT
      isplitl [Ho]; · iexact Ho
      isplitl [H0]; · iexact H0
      isplitl [H1]; · iexact H1
      iexact H2
    · rw [(leaves_idle m c t hn).1, (leaves_idle m c t hn).2, PhiS_succ, hp, PhiS_succ]
      iintro ⟨⟨⟨HA, HS, HN⟩, HT⟩, Ho, ⟨%d0, H0⟩, ⟨%d1, H1⟩, ⟨%d2, H2⟩⟩
      iapply (run_mid c (grid0.coords t) _ _ _ _ _ _ _ _ _ _ _ _ _ _ (lbl m) (iblk m c 0 t) (accM m c p) (cntM m p) hlab (mt (hcond1 t).mp hz) (mt (hcond2 t).mp hn) _)
      isplitl [HT]; · iexact HT
      isplitl [H0]; · iexact H0
      isplitl [HA]; · iexact HA
      isplitl [HS]; · iexact HS
      isplitl [HN]; · iexact HN
      rw [hv, iblk_eq, hp]
      iintro ⟨HT, H0, HA, HS, HN⟩
      isplitl [HT HA HS HN]
      · isplitr [HT]
        · isplitl [HA]; · iexact HA
          isplitl [HS]; · iexact HS
          iexact HN
        iexact HT
      isplitl [Ho]; · iexact Ho
      isplitl [H0]; · iexact H0
      isplitl [H1]; · iexists _; iexact H1
      iexists _; iexact H2

omit hlab in
/-- The body table's row at point `t` is the body. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row m]
  refine triple_restated (sound_body m hlab c t) rfl ?_ fun _ => ?_
  · unfold bodyPre; rw [← PhiT_eq]; exact .rfl
  · unfold bodyPost; rw [← PhiT_eq]; exact .rfl

end Cert.KernelIdeal.Run

end
-- ==== Proof.LaunchI.lean ====
module

public import proofs.«01_k».proof.Proof.ObligI
public import Idealize.ShloMosaic.Lib.Claim

/-! The whole program's run: it ends, leaves its arguments, and its results are named. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region and what follows it. -/
theorem hmain : Pipeline.HMainPK (Ix := Unit) (Name := ℕ) (U := Pipeline.UD sig nD τ) (Lvl := ℕ) pcfgs 0 defs₀ Variants.none m (main (F := F))
    (fun c b => V0 m c (Proc.devRef .tc b)) (fun _ => Pipeline.chain ([hostOps1].map StableHlo.seq)) :=
  Pipeline.hmainP_around pcfgs 0 defs₀ Variants.none m main [hostOps0] [hostOps1] (by exact hostOps0_sub) (by exact hostOps0_fresh) main_chain

/-- The lines after the region touch the region's arrays and the buffers it bypasses. -/
theorem sfx_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op (List.forall_iff_forall_mem.mp hostOps1_sub op hop) fun k => ?_
  simp only [hostOps1, List.mem_cons, List.mem_nil_iff, or_false] at hop
  rcases hop with rfl | rfl | rfl <;> fin_cases k <;>
    simp only [StableHlo.reshape_bufs, StableHlo.unary_bufs, Finset.mem_insert, Finset.mem_singleton, not_or] <;>
    exact ⟨StableHlo.devRef_ne_of_ne (by decide), StableHlo.devRef_ne_of_ne (by decide)⟩

/-- No host operation after the region creates a buffer. -/
theorem sfx_fresh : ∀ ops ∈ ([hostOps1] : List (List (HloOp τ sig (Elt F)))), ∀ op ∈ ops, op.fresh = ∅ := by
  intro ops hops op hop
  obtain rfl := List.mem_singleton.mp hops
  exact List.forall_iff_forall_mem.mp hostOps1_fresh op hop

/-- They write no array of the region. -/
theorem sfx_keeps : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.mp hops
  simp only [hostOps1, List.mem_cons, List.mem_nil_iff, or_false] at hop
  rcases hop with rfl | rfl | rfl <;> fin_cases w <;>
    simp only [StableHlo.reshape_writes, StableHlo.unary_writes, Finset.mem_singleton] <;> exact StableHlo.devRef_ne_of_ne (by decide)

/-- The buffers they write. -/
def T0 : Finset (Ref sig .tc) := {main_call0_v2, main_v0_1, main_v0_0}

/-- What the host operations after the region may write. -/
theorem sfx_writes : ∀ ops ∈ ([hostOps1] : List (List (HloOp τ sig (Elt F)))), ∀ op ∈ ops, ∀ b : Ref sig .tc, Proc.devRef .tc b ∈ op.writes → b ∈ T0 := by
  intro ops hops op hop b hb
  obtain rfl := List.mem_singleton.mp hops
  simp only [hostOps1, List.mem_cons, List.mem_nil_iff, or_false] at hop
  rcases hop with rfl | rfl | rfl <;>
    simp only [StableHlo.reshape_writes, StableHlo.unary_writes, Finset.mem_singleton] at hb <;>
    (cases Proc.devRef_injective _ hb; decide)

/-- What the invariant is entered from. -/
theorem phi_in (c : Dev nD) : iprop(Pipeline.scopedRest (Ix := Unit) (Name := ℕ) (U := Pipeline.UD sig nD τ) (Lvl := ℕ) (Val := Elt F) spec0 c ∗ Pipeline.ΦT pre0 (tbl m) c : sProp 𝕄)
    ⊢ (dats m 0 c).Φ 0 := .rfl

/-- What it gives back. -/
theorem phi_out (c : Dev nD) : (dats m 0 c).Φ (Fin.last (cfgM m).N)
    ⊢ (Pipeline.scopedRest (Ix := Unit) (Name := ℕ) (U := Pipeline.UD sig nD τ) (Lvl := ℕ) (Val := Elt F) spec0 c : sProp 𝕄) := by
  show iprop(PhiS m c (cfgM m).N ∗ Pipeline.ΦT pre0 (tbl m) c) ⊢ PhiS m c 0
  iintro ⟨H, -⟩
  iapply (PhiS_any m c (cfgM m).N) $$ H

/-- The program has no semaphore of its own. -/
theorem sems_none (c : Dev nD) : (Pipeline.ownSems0 (Ix := Unit) (Name := ℕ) (U := Pipeline.UD sig nD τ) (Lvl := ℕ) (Val := Elt F) (τ := τ) (sig := sig) (fun k : PEmpty => k.elim) c : sProp 𝕄) = BI.emp :=
  by unfold Pipeline.ownSems0; rw [Finset.univ_eq_empty, bigSep_empty]

variable (hlab : ∀ y, (lbl m y : BitVec 32).toNat < 10)
include hlab

set_option backward.isDefEq.respectTransparency.types false in
set_option maxHeartbeats 800000 in
/-- The run, reading the arguments. -/
theorem run_frame : θ_run defs (onTc (τ := τ) (main (F := F))) (s₀ m ρ)
    (Pipeline.FramePostR (Pipeline.pin pcfgs fun _ => adm m) (dats m) 0 (∅ ∪ T0) (fun c b => V0 m c (Proc.devRef .tc b))) :=
  Pipeline.θ_run_frameP_dmaR_around₀ pcfgs (fun _ => adm m) (dats m) (0 : Fin 1) launch0 (fun k : PEmpty => k.elim) defs₀ Variants.none
    (Pipeline.OwnSemFacts.none _) ∅ ∅ T0 (Finset.empty_subset _) (Finset.empty_subset _) m ρ main
    (hbody := fun c => (body_obligation m hlab c).loose) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m) (hA := A_eq m) (hpf := V_pre m)
    (hin := fun c => by
      unfold Pipeline.ΦDR₀
      iintro ⟨⟨H, -⟩, HT⟩
      iapply (phi_in m c)
      isplitl [H]; · iexact H
      iexact HT)
    (hout := fun c => by
      refine (phi_out m c).trans ?_
      unfold Pipeline.ΦDR₀ Pipeline.owned
      rw [sems_none, bigSep_empty]
      iintro H
      isplitl [H]; · iexact H
      isplitr; · iempintro
      isplitr; · iempintro
      iempintro)

set_option backward.isDefEq.respectTransparency.types false in
set_option maxHeartbeats 800000 in
/-- The run, reading the results and the counters. -/
theorem run_value : θ_run defs (onTc (τ := τ) (main (F := F))) (s₀ m ρ) (fun r =>
    (∀ c : Dev nD, (∀ w, r.2.mem ((spec0 w).arr.view.loc (c.tc : Thread nD τ)) = (dats m 0 c).arrAt w (cfgM m).N)
      ∧ ∀ b ∈ Pipeline.restRefsP sig pre0 spec0, r.2.mem ((c.tc : Thread nD τ).loc b)
        = StableHlo.after (List.flatten [hostOps1]) (Pipeline.withArrays spec0 c (Pipeline.withR (V0 m c) ∅ c (V m c)) fun w => (dats m 0 c).arrAt w (cfgM m).N) (Proc.devRef .tc b))
    ∧ r.2.sem = (fun _ => 0)) :=
  Pipeline.θ_run_frameP_dmaR_aroundV pcfgs (fun _ => adm m) (dats m) (0 : Fin 1) launch0 (fun k : PEmpty => k.elim) defs₀ Variants.none
    (Pipeline.OwnSemFacts.none _) ∅ ∅ (Finset.empty_subset _) (Finset.empty_subset _) m ρ main
    (hbody := fun c => (body_obligation m hlab c).loose) (hshare := fun c => (dats m 0 c).share_full fun _ => rfl) (howed := fun _ _ => rfl)
    (V₀ := V0 m) (opss := [hostOps1]) (hsub := sfx_sub) (hfresh := sfx_fresh) (hkeep := sfx_keeps) (G := fun c => V m c)
    (hmain := hmain m) (hA := A_eq m) (hpf := V_pre m)
    (hin := fun c => by
      unfold Pipeline.ΦDRV
      iintro ⟨⟨H, -⟩, HT⟩
      iapply (phi_in m c)
      isplitl [H]; · iexact H
      iexact HT)
    (hout := fun c => by
      refine (phi_out m c).trans ?_
      unfold Pipeline.ΦDRV
      rw [sems_none, bigSep_empty]
      iintro H
      isplitl [H]; · iexact H
      isplitr; · iempintro
      isplitr; · iempintro
      iempintro)
    (Q' := _) (hQ' := fun _ h => h)

end Cert.KernelIdeal.Run

end
-- ==== Proof.ResultsI.lean ====
module

public import proofs.«01_k».proof.Proof.LaunchI
public import Idealize.ShloMosaic.Lib.StableHlo.ReadAt

/-! What the program leaves in its arguments and in its two results. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The labels the kernel reads are the program's second argument. -/
theorem lbl_eq (c : Dev nD) : lbl m = m ((c : Thread nD τ).loc main_arg1) := by
  obtain rfl : c = 0 := Subsingleton.elim _ _
  exact V_arg1 m 0

/-- The regrouped spikes: neuron `n` is lane `n % 128` of row `n / 128`. -/
theorem spikes_at (c : Dev nD) (b : Fin 4096) (t : Fin 20) (p : Fin 8) (q : Fin 128) :
    (V m c main_call0_v0 : Vec F S4096x20x8x128 .f32) (ix4 (n0 := 4096) (n1 := 20) (n2 := 8) (n3 := 128) b t p q)
      = (m ((c : Thread nD τ).loc main_arg0) : Vec F S4096x20x1024 .f32) (ix3 (n0 := 4096) (n1 := 20) (n2 := 1024) b t (Fin.ofNat 1024 (128 * p.val + q.val))) := by
  unfold V V0
  after_reads_at
  have hp := p.isLt
  have hq := q.isLt
  exact congrArg (fun n => (m ((c : Thread nD τ).loc main_arg0) : Vec F S4096x20x1024 .f32) (ix3 (n0 := 4096) (n1 := 20) (n2 := 1024) b t n))
    (Fin.ext (by show p.val * 128 + q.val = (128 * p.val + q.val) % 1024; omega))

/-- The region leaves the rates of the last point in its first output. -/
theorem arr_1 (c : Dev nD) : (dats m 0 c).arrAt 1 (cfgM m).N = (rOut (cntM m 31) (accM m c 31) : Vec F S10x8x128 .f32) := by
  refine (dats m 0 c).arrAt_eq_of_after_last 1 ⟨31, (by decide : 31 < grid0.N)⟩ ⟨?_, fun t ht => ?_, fun a => ?_⟩ _ fun j => ?_
  · exact (flush_1 m _).2 rfl
  · have h := (flush_1 m t).1 ht
    have ht' : t.val < 32 := t.isLt
    exact Fin.ext (by show t.val = 31; omega)
  · rcases (by decide : ∀ a : Fin 3, a = 0 ∨ a = 1 ∨ a = 2) a with rfl | rfl | rfl <;> exact ⟨rfl, rfl⟩
  · rw [after_1]
    rfl

/-- The region leaves the assignments of the last point in its second output. -/
theorem arr_2 (c : Dev nD) : (dats m 0 c).arrAt 2 (cfgM m).N = (gOut (cntM m 31) (accM m c 31) : Vec F S8x128 .i32) := by
  refine (dats m 0 c).arrAt_eq_of_after_last 2 ⟨31, (by decide : 31 < grid0.N)⟩ ⟨?_, fun t ht => ?_, fun a => ?_⟩ _ fun j => ?_
  · exact (flush_2 m _).2 rfl
  · have h := (flush_2 m t).1 ht
    have ht' : t.val < 32 := t.isLt
    exact Fin.ext (by show t.val = 31; omega)
  · rcases (by decide : ∀ a : Fin 2, a = 0 ∨ a = 1) a with rfl | rfl <;> exact ⟨rfl, rfl⟩
  · rw [after_2]
    rfl

/-- Memory when the region ends. -/
abbrev W (c : Dev nD) : Valuation τ sig (Elt F) :=
  Pipeline.withArrays spec0 c (Pipeline.withR (V0 m c) ∅ c (V m c)) fun w => (dats m 0 c).arrAt w (cfgM m).N

/-- The first output's array after the region: the rates after the last point. -/
theorem W_1 (c : Dev nD) : W m c (Proc.devRef .tc main_call0_v1_0) = (rOut (cntM m 31) (accM m c 31) : Vec F S10x8x128 .f32) :=
  (Pipeline.withArrays_arr spec0 winFacts0.arr_inj c _ _ 1).trans (arr_1 m c)
/-- The second output's array after the region: the assignments after the last point. -/
theorem W_2 (c : Dev nD) : W m c (Proc.devRef .tc main_call0_v1_1) = (gOut (cntM m 31) (accM m c 31) : Vec F S8x128 .i32) :=
  (Pipeline.withArrays_arr spec0 winFacts0.arr_inj c _ _ 2).trans (arr_2 m c)

/-- The rates as the program returns them. -/
def ratesOf (n : Vec F S10 .i32) (a : Vec F S10x8x128 .f32) : Vec F S1024x10 .f32 := fun j =>
  rOut n a (ix3 (n0 := 10) (n1 := 8) (n2 := 128) (j 1) (Fin.ofNat 8 ((j 0).val / 128)) (Fin.ofNat 128 (j 0).val))
/-- The assignments as the program returns them. -/
def assignOf (n : Vec F S10 .i32) (a : Vec F S10x8x128 .f32) : Vec F S1024 .i32 := fun j =>
  gOut n a (ix2 (n0 := 8) (n1 := 128) (Fin.ofNat 8 ((j 0).val / 128)) (Fin.ofNat 128 (j 0).val))

/-- The second result, after the host operations that follow the region. -/
theorem after_rates (c : Dev nD) : StableHlo.after (List.flatten [hostOps1]) (W m c) (Proc.devRef .tc main_v0_1)
    = ratesOf (cntM m 31) (accM m c 31) := by
  funext (j : S1024x10.Idx)
  unfold ratesOf
  rw [← W_1]
  idx_vars j
  have h0 := j0.isLt
  generalize W m c = X
  after_reads_at
  have e1 : (⟨j0.val / 128, by omega⟩ : Fin 8) = Fin.ofNat 8 (j0.val / 128) := Fin.ext (by show j0.val / 128 = (j0.val / 128) % 8; omega)
  have e2 : (⟨j0.val % 128, by omega⟩ : Fin 128) = Fin.ofNat 128 j0.val := Fin.ext rfl
  exact congrArg₂ (fun p q => (X (Proc.devRef .tc main_call0_v1_0) : Vec F S10x8x128 .f32) (ix3 (n0 := 10) (n1 := 8) (n2 := 128) j1 p q)) e1 e2

/-- The first result, after the host operations that follow the region. -/
theorem after_assign (c : Dev nD) : StableHlo.after (List.flatten [hostOps1]) (W m c) (Proc.devRef .tc main_v0_0)
    = assignOf (cntM m 31) (accM m c 31) := by
  funext (j : S1024.Idx)
  unfold assignOf
  rw [← W_2]
  idx_vars j
  have h0 := j0.isLt
  generalize W m c = X
  after_reads_at
  have e1 : (⟨j0.val / 128, by omega⟩ : Fin 8) = Fin.ofNat 8 (j0.val / 128) := Fin.ext (by show j0.val / 128 = (j0.val / 128) % 8; omega)
  have e2 : (⟨j0.val % 128, by omega⟩ : Fin 128) = Fin.ofNat 128 j0.val := Fin.ext rfl
  exact congrArg₂ (fun p q => (X (Proc.devRef .tc main_call0_v1_1) : Vec F S8x128 .i32) (ix2 (n0 := 8) (n1 := 128) p q)) e1 e2

variable (hlab : ∀ y, (lbl m y : BitVec 32).toNat < 10)
include hlab

/-- The program ends, its arguments as launched, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (by decide : main_arg0 ∈ Pipeline.restRefs sig spec0 \ (∅ ∪ T0))).trans (V_arg0 m c), ((h.1 c).2 main_arg1 (by decide : main_arg1 ∈ Pipeline.restRefs sig spec0 \ (∅ ∪ T0))).trans (V_arg1 m c)⟩, h.2.2⟩)
    (θ_run_and (run_frame m ρ hlab) (run_value m ρ hlab))

/-- The program ends with its results named and its arguments as launched. -/
theorem value : θ_run defs (onTc (τ := τ) (main (F := F))) ⟨m, fun _ => 0, ρ⟩ (fun r => ∀ c : Dev nD,
      r.2.mem ((c.tc : Thread nD τ).loc main_v0_0) = assignOf (cntM m 31) (accM m c 31)
      ∧ r.2.mem ((c.tc : Thread nD τ).loc main_v0_1) = ratesOf (cntM m 31) (accM m c 31)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2.1 c).2 main_v0_0 (by decide)).trans (after_assign m c), ((h.2.1 c).2 main_v0_1 (by decide)).trans (after_rates m c),
      (h.1.1 c).1, (h.1.1 c).2⟩)
    (θ_run_and (frame m ρ hlab) (run_value m ρ hlab))

end Cert.KernelIdeal.Run

end
-- ==== Proof.Frames.lean ====
module

public import proofs.«01_k».proof.Proof.RefRun
public import proofs.«01_k».proof.Proof.Results
public import proofs.«01_k».proof.Proof.ResultsI
public import proofs.«01_k».proof.Proof.Gen.Pre_labels_in_range

/-! The frame claims: the kernel in both readings and the reference end, and leave their arguments as they were. -/

@[expose] public section

set_option maxRecDepth 16384

noncomputable section

namespace Cert.Frames

open Idealize.ShloMosaic Idealize.ShloMosaic.TcCoe Idealize.ShloMosaic.Tactic Idealize.SL.Sem

/-- Where the precondition holds, each label is one of the ten. -/
theorem label_lt {F : FTy → Type} [FloatOps F] (x : FVec F ⟨3, ![4096, 20, 1024]⟩ .f32) (l : IVec ⟨1, ![4096]⟩ 32)
    (h : Cert.Pre_labels_in_range.fn (F := F) x l = fun _ => 1#1) (y : (⟨1, ![4096]⟩ : Shape).Idx) : (l y).toNat < 10 := by
  have h := congrFun h y
  pointwise [Cert.Pre_labels_in_range.fn] at h
  generalize l y = w at h
  word_cmp at h

/-- The labels the kernel reads are within the ten. -/
theorem lbl_lt (m : (ℓ : Loc Cert.Kernel.nD Cert.Kernel.τ Cert.Kernel.sig) → Buf (Elt Bits) ℓ) (h : Cert.Pre_Kernel m) (y : (⟨1, ![4096]⟩ : Shape).Idx) :
    (Cert.Kernel.Run.lbl m y : BitVec 32).toNat < 10 := by
  rw [Cert.Kernel.Run.lbl_eq m 0]
  exact label_lt _ _ (h 0) y

/-- The same for the kernel read over the extended reals. -/
theorem lbl_lt_ideal (m : (ℓ : Loc Cert.KernelIdeal.nD Cert.KernelIdeal.τ Cert.KernelIdeal.sig) → Buf (Elt Ideal) ℓ) (h : Cert.Pre_KernelIdeal m)
    (y : (⟨1, ![4096]⟩ : Shape).Idx) : (Cert.KernelIdeal.Run.lbl m y : BitVec 32).toNat < 10 := by
  rw [Cert.KernelIdeal.Run.lbl_eq m 0]
  exact label_lt _ _ (h 0) y

/-- The kernel ends, with its arguments as they were and every counter at zero. -/
theorem kernel : Cert.quiescent_Kernel := fun m g h => Cert.Kernel.Run.frame m g (lbl_lt m h)

/-- So does the kernel read over the extended reals. -/
theorem kernel_ideal : Cert.quiescent_KernelIdeal := fun m g h => Cert.KernelIdeal.Run.frame m g (lbl_lt_ideal m h)

/-- The reference ends, with its arguments as they were and every counter at zero. -/
theorem reference : Cert.quiescent_ReferenceIdeal := fun m g _ =>
  (θ_run _ _ _).mono (fun r h => ⟨fun c => ⟨(h.1 c Cert.ReferenceIdeal.main_arg0).trans (Cert.ReferenceIdeal.Run.keeps_arg0 _),
    (h.1 c Cert.ReferenceIdeal.main_arg1).trans (Cert.ReferenceIdeal.Run.keeps_arg1 _)⟩, h.2⟩) (Cert.ReferenceIdeal.Run.run m g)

/-- The reference under the precondition is a case of the last. -/
theorem reference_pre : Cert.quiescent_ReferenceIdeal_pre_labels_in_range := fun m g _ => reference m g trivial

end Cert.Frames

end
-- ==== Proof.Land.lean ====
module

public import proofs.«01_k».proof.Proof.RefRun
public import Idealize.ShloMosaic.Lib.Routing.OpsPair

/-! Where the reference's two scatters put an update: into the row its label names. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing

/-- The count's scatter puts update `b` into entry `l` just when index word `b` is `l`. -/
theorem count_lands (idx : IVec S4096x1 32) (b : Fin 4096) (l : Fin 10) :
    scatter_S10_S4096x1_S4096_n_0_0_1.resultIdx? (ix1 b) idx = some (ix1 l) ↔ (idx (ix2 b 0)).toInt = (l.val : ℤ) := by
  rw [resultIdx?_eq_some]
  have hw : scatter_S10_S4096x1_S4096_n_0_0_1.window (ix1 b) 0 = 0 := rfl
  have hs : scatter_S10_S4096x1_S4096_n_0_0_1.start (ix1 b) idx 0 = (idx (ix2 b 0)).toInt := by
    refine congrArg (fun i => (idx i).toInt) (funext fun a => ?_)
    rcases (by decide : ∀ a : Fin 2, a = 0 ∨ a = 1) a with rfl | rfl <;> rfl
  constructor
  · intro h
    have h0 := h 0
    rw [hs, hw] at h0
    exact (add_zero _).symm.trans h0
  · intro h a
    obtain rfl : a = (0 : Fin 1) := Subsingleton.elim (α := Fin 1) a 0
    rw [hs, hw]
    exact (add_zero _).trans h

/-- The sums' scatter puts update `(b, n)` into entry `(l, n')` just when index word `b` is `l` and `n` is `n'`. -/
theorem sum_lands (idx : IVec S4096x1 32) (b : Fin 4096) (n : Fin 1024) (l : Fin 10) (n' : Fin 1024) :
    scatter_S10x1024_S4096x1_S4096x1024_1_0_0_1.resultIdx? (ix2 b n) idx = some (ix2 l n') ↔ (idx (ix2 b 0)).toInt = (l.val : ℤ) ∧ n = n' := by
  rw [resultIdx?_eq_some]
  have hw0 : scatter_S10x1024_S4096x1_S4096x1024_1_0_0_1.window (ix2 b n) (0 : Fin 2) = 0 := rfl
  have hw1 : scatter_S10x1024_S4096x1_S4096x1024_1_0_0_1.window (ix2 b n) (1 : Fin 2) = n.val := rfl
  have hs1 : scatter_S10x1024_S4096x1_S4096x1024_1_0_0_1.start (ix2 b n) idx (1 : Fin 2) = 0 := rfl
  have hs0 : scatter_S10x1024_S4096x1_S4096x1024_1_0_0_1.start (ix2 b n) idx (0 : Fin 2) = (idx (ix2 b 0)).toInt := by
    refine congrArg (fun i => (idx i).toInt) (funext fun a => ?_)
    rcases (by decide : ∀ a : Fin 2, a = 0 ∨ a = 1) a with rfl | rfl <;> rfl
  constructor
  · intro h
    have h0 := h (0 : Fin 2)
    have h1 := h (1 : Fin 2)
    rw [hs0, hw0] at h0
    rw [hs1, hw1] at h1
    refine ⟨(add_zero _).symm.trans h0, Fin.ext ?_⟩
    have h1' : (0 : ℤ) + (n.val : ℤ) = (n'.val : ℤ) := h1
    omega
  · rintro ⟨h, rfl⟩ a
    rcases (by decide : ∀ a : Fin 2, a = 0 ∨ a = 1) a with rfl | rfl
    · rw [hs0, hw0]
      exact (add_zero _).trans h
    · rw [hs1, hw1]
      exact zero_add _

end Cert.ReferenceIdeal.Run

end
-- ==== Proof.RefVals.lean ====
module

public import proofs.«01_k».proof.Proof.Land
public import Idealize.ShloMosaic.Lib.Pointwise
public import Idealize.ShloMosaic.Lib.Routing.Ops
public import Idealize.ShloMosaic.Lib.WordCmp
public import Idealize.ShloMosaic.PureOps.Ideal.Laws

/-! The reference's buffers, entry by entry, over the extended reals. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Idealize.ShloMosaic.Routing

variable (V : Valuation τ sig (Elt Ideal))

/-- A word is the label `l` read signed just when it is read unsigned. -/
theorem word_label (w : BitVec 32) (l : Fin 10) : w.toInt = (l.val : ℤ) ↔ w.toNat = l.val := by
  have hl := l.isLt
  have hw := w.isLt
  rw [BitVec.toInt_eq_toNat_cond]
  split <;> omega

/-- The host's sum over the time steps, one entry. -/
theorem steps_at (x : FVec Ideal S4096x20x1024 .f32) (b : Fin 4096) (n : Fin 1024) :
    (Host.reduceAdd x (constant S_ .f32 0x00000000#32) reducesTo_S4096x20x1024_S4096x1024_d1 h_S_ : FVec Ideal S4096x1024 .f32) (ix2 b n)
      = (∑ t : Fin 20, (x (ix3 b t n) : EReal)) := by
  pointwise

/-- The sums by label, one entry: the sum over the examples that have the label. -/
theorem sums_at (lb : IVec S4096 32) (x : FVec Ideal S4096x20x1024 .f32) (l : Fin 10) (n : Fin 1024) :
    (Host.scatterAdd scatter_S10x1024_S4096x1_S4096x1024_1_0_0_1 (broadcastInDim S10x1024 ![] bcast_S_S10x1024 (constant S_ .f32 0x00000000#32))
      (broadcastInDim S4096x1 ![0] bcast_S4096_S4096x1_0 lb)
      (Host.reduceAdd x (constant S_ .f32 0x00000000#32) reducesTo_S4096x20x1024_S4096x1024_d1 h_S_) : FVec Ideal S10x1024 .f32) (ix2 l n)
      = (∑ b : Fin 4096, if (lb (ix1 b) : BitVec 32).toNat = l.val then ∑ t : Fin 20, (x (ix3 b t n) : EReal) else 0) := by
  have hl : ∀ b : Fin 4096, (broadcastInDim S4096x1 ![0] bcast_S4096_S4096x1_0 lb : IVec S4096x1 32) (ix2 b 0) = lb (ix1 b) := by
    intro b; pointwise
  show Ideal.hostScatterAdd _ _ _ _ _ = _
  unfold Ideal.hostScatterAdd
  rw [show (broadcastInDim S10x1024 ![] bcast_S_S10x1024 (constant S_ .f32 0x00000000#32) : FVec Ideal S10x1024 .f32) (ix2 l n) = (0 : EReal) by pointwise,
    zero_add, Finset.sum_filter, sum_idx2]
  refine Finset.sum_congr rfl fun b _ => ?_
  simp only [sum_lands, hl, word_label, steps_at]
  by_cases h : (lb (ix1 b) : BitVec 32).toNat = l.val
  · simp only [h, true_and, if_true]
    exact Finset.sum_ite_eq' Finset.univ n _ |>.trans (if_pos (Finset.mem_univ n))
  · simp only [h, false_and, if_false]
    exact Finset.sum_const_zero

/-- A fold that adds one where a condition holds counts the places where it holds. -/
theorem fold_adds {ι : Type} (P : ι → Prop) [DecidablePred P] (u : ι → BitVec 32) (hu : ∀ i, u i = 1#32) (L : List ι) (z : BitVec 32) :
    L.foldl (fun a i => if P i then IntOp.addi a (u i) else a) z = z + BitVec.ofNat 32 (L.map fun i => if P i then 1 else 0).sum := by
  induction L generalizing z with
  | nil => exact (BitVec.add_zero z).symm
  | cons i L ih =>
    rw [List.foldl_cons, ih, List.map_cons, List.sum_cons, BitVec.ofNat_add, ← BitVec.add_assoc]
    by_cases h : P i
    · rw [if_pos h, if_pos h, hu]; rfl
    · rw [if_neg h, if_neg h]; exact congrArg (· + _) (BitVec.add_zero z).symm

/-- The count of one label: the number of examples that have it. -/
theorem counts_at (w : IVec S4096x1 32) (l : Fin 10) :
    (Host.scatter scatter_S10_S4096x1_S4096_n_0_0_1 IntOp.addi (broadcastInDim S10 ![] bcast_S_S10 (constantI S_ 32 0#32) : IVec S10 32) w
      (broadcastInDim S4096 ![] bcast_S_S4096 (constantI S_ 32 1#32)) (ix1 l) : BitVec 32)
      = BitVec.ofNat 32 (∑ b : Fin 4096, if (w (ix2 b 0) : BitVec 32).toNat = l.val then 1 else 0) := by
  refine (scatter_at _ _ _ _ _ _).trans ?_
  refine (fold_adds (fun n => scatter_S10_S4096x1_S4096_n_0_0_1.resultIdx? (S4096.rowMajor.symm n) w = some (ix1 l)) _ (fun n => ?_) _ _).trans ?_
  · generalize S4096.rowMajor.symm n = y
    obtain ⟨b, rfl⟩ : ∃ b, y = ix1 (n0 := 4096) b := ⟨y 0, (ix1_eta y).symm⟩
    pointwise
  rw [show (broadcastInDim S10 ![] bcast_S_S10 (constantI S_ 32 0#32) : IVec S10 32) (ix1 l) = 0#32 by pointwise]
  refine (BitVec.zero_add _).trans (congrArg (BitVec.ofNat 32) ?_)
  rw [← Fin.sum_univ_def]
  refine Fintype.sum_equiv (finCongr (numel1 4096)) _ _ fun n => ?_
  have e : S4096.rowMajor.symm n = ix1 (finCongr (numel1 4096) n) := symm1 n
  rw [e]
  exact if_congr ((count_lands w _ l).trans (word_label _ l)) rfl rfl

/-- The index words of the count are the labels: clipping below at zero and wrapping a negative index change nothing. -/
theorem words_at (lb : IVec S4096 32) (hlab : ∀ y, (lb y : BitVec 32).toNat < 10) (b : Fin 4096) :
    (broadcastInDim S4096x1 ![0] bcast_S4096_S4096x1_0
        (select
          (cmpi CmpIPredicate.slt
            (maxsi (broadcastInDim S4096 ![] bcast_S_S4096 (id (constantI S_ 32 0#32))) lb)
            (broadcastInDim S4096 ![] bcast_S_S4096 (constantI S_ 32 0#32)))
          (addi
            (maxsi (broadcastInDim S4096 ![] bcast_S_S4096 (id (constantI S_ 32 0#32))) lb)
            (broadcastInDim S4096 ![] bcast_S_S4096 (constantI S_ 32 10#32)))
          (maxsi (broadcastInDim S4096 ![] bcast_S_S4096 (id (constantI S_ 32 0#32))) lb)) : IVec S4096x1 32) (ix2 b 0) = lb (ix1 b) := by
  have h := hlab (ix1 b)
  pointwise
  generalize lb (ix1 b) = w at h ⊢
  have e : IntOp.maxsi (id (constantI S_ 32 0#32) ix0) w = w := by
    show (if w.slt 0#32 then 0#32 else w) = w
    refine if_neg fun hs => ?_
    rw [BitVec.slt_iff_toInt_lt, BitVec.toInt_eq_toNat_cond, if_pos (by omega)] at hs
    exact absurd hs (by simp)
  rw [e]
  exact wrap_of_lt w _ (by omega)

end Cert.ReferenceIdeal.Run

end
-- ==== Proof.Argmax.lean ====
module

public import proofs.«01_k».proof.Proof.RefVals

/-! The label of the greatest rate: the reference's reduction over pairs of a rate and its label, run over the ten labels in order. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing

/-- The greatest of the first `k + 1` values and the first place that holds it. -/
def best (x : ℕ → EReal) : ℕ → EReal × BitVec 32
  | 0 => (x 0, 0#32)
  | k + 1 => if (best x k).1 < x (k + 1) then (x (k + 1), BitVec.ofNat 32 (k + 1)) else best x k

/-- The place is among those seen. -/
theorem best_le (x : ℕ → EReal) (k : ℕ) : (best x k).2.toNat ≤ k := by
  induction k with
  | zero => exact Nat.le_refl 0
  | succ k ih =>
    unfold best
    split
    · show (BitVec.ofNat 32 (k + 1)).toNat ≤ k + 1
      rw [BitVec.toNat_ofNat]; exact Nat.mod_le _ _
    · exact Nat.le_succ_of_le ih

/-- One step of the reduction: a later pair replaces the pair held just when its value is greater. -/
theorem pick (v w : EReal) (i j : BitVec 32) (hij : i.toNat < j.toNat) (hj : j.toNat < 10) :
    reducer_argmax_f32_i32 (F := Ideal) (v, i) (w, j) = if v < w then (w, j) else (v, i) := by
  have e : IntOp.cmpi .slt i j = 1#1 := by word_cmp
  unfold reducer_argmax_f32_i32
  simp only [e, Ideal.cmpf_def, Ideal.cmp]
  rcases lt_trichotomy v w with h | h | h
  · rw [if_pos h, decide_eq_false (not_lt_of_gt h), decide_eq_false (not_not_intro rfl), decide_eq_false (ne_of_lt h)]
    rfl
  · rw [if_neg (not_lt_of_ge (le_of_eq h.symm)), decide_eq_false (not_lt_of_ge (le_of_eq h)), decide_eq_false (not_not_intro rfl), decide_eq_true h, h]
    rfl
  · rw [if_neg (not_lt_of_gt h), decide_eq_true h, decide_eq_false (not_not_intro rfl), decide_eq_false (ne_of_gt h)]
    rfl

/-- The first step keeps the first pair. -/
theorem pick_first (w : EReal) : reducer_argmax_f32_i32 (F := Ideal) (⊥, 0#32) (w, 0#32) = (w, 0#32) := by
  unfold reducer_argmax_f32_i32
  simp only [Ideal.cmpf_def, Ideal.cmp]
  rw [decide_eq_false (not_lt_bot : ¬ w < ⊥), decide_eq_false (not_not_intro rfl), show IntOp.cmpi .slt (0#32 : BitVec 32) 0#32 = 0#1 from rfl]
  rcases Decidable.em ((⊥ : EReal) = w) with h | h
  · rw [decide_eq_true h]; rfl
  · rw [decide_eq_false h]; rfl

/-- Of a list in order, the places with a property are the ones an increasing enumeration of them names. -/
theorem filter_places {N k : ℕ} (P : Fin N → Prop) [DecidablePred P] (e : Fin k → Fin N) (he : StrictMono e) (h : ∀ n, P n ↔ ∃ r, e r = n) :
    ((List.finRange N).filter fun n => P n) = (List.finRange k).map e := by
  refine List.Perm.eq_of_pairwise (le := fun a b => a < b) (fun a b _ _ h₁ h₂ => absurd h₁ (not_lt_of_gt h₂)) ?_ ?_ ?_
  · exact (List.pairwise_lt_finRange N).filter _
  · exact (List.pairwise_lt_finRange k).map _ fun a b hab => he hab
  · refine (List.perm_ext_iff_of_nodup ((List.nodup_finRange N).filter _) ((List.nodup_finRange k).map he.injective)).2 fun n => ?_
    simp [h]

/-- The pairs of one row. -/
theorem fiber_row (x : FVec Ideal S1024x10 .f32) (n : Fin 1024) :
    Host.argReduceFiber x (iotaInDim S1024x10 32 1) reducesTo_S1024x10_S1024_d1 (ix1 n)
      = (List.finRange 10).map fun r => (x (ix2 n r), BitVec.ofNat 32 r.val) := by
  have hN : S1024x10.numel = 10240 := by decide
  have hn := n.isLt
  unfold Host.argReduceFiber
  rw [filter_places (k := 10) _ (fun r => ⟨10 * n.val + r.val, by rw [hN]; omega⟩) (fun a b hab => by
    show 10 * n.val + a.val < 10 * n.val + b.val
    have : a.val < b.val := hab
    omega) (fun m => by
    have hm : m.val < 10240 := Nat.lt_of_lt_of_eq m.isLt hN
    rw [show S1024x10.rowMajor.symm m = ix2 (⟨m.val / 10, by omega⟩ : Fin 1024) (⟨m.val % 10, by omega⟩ : Fin 10) from symm22 m _ _]
    rw [show reducesTo_S1024x10_S1024_d1.drop (ix2 (⟨m.val / 10, by omega⟩ : Fin 1024) (⟨m.val % 10, by omega⟩ : Fin 10)) = ix1 (⟨m.val / 10, by omega⟩ : Fin 1024) from by
      funext a
      obtain rfl : a = (0 : Fin 1) := Subsingleton.elim (α := Fin 1) a 0
      rfl]
    constructor
    · intro h
      have h0 : m.val / 10 = n.val := congrArg Fin.val (congrFun h 0)
      exact ⟨⟨m.val % 10, by omega⟩, Fin.ext (by show 10 * n.val + m.val % 10 = m.val; omega)⟩
    · rintro ⟨r, rfl⟩
      funext a
      obtain rfl : a = (0 : Fin 1) := Subsingleton.elim (α := Fin 1) a 0
      refine Fin.ext ?_
      show (10 * n.val + r.val) / 10 = n.val
      omega), List.map_map]
  refine List.map_congr_left fun r _ => ?_
  have hr := r.isLt
  have e : S1024x10.rowMajor.symm ⟨10 * n.val + r.val, by rw [hN]; omega⟩ = ix2 n r := by
    refine (symm22 (A := 1024) (B := 10) _ (by show (10 * n.val + r.val) / 10 < 1024; omega) (by show (10 * n.val + r.val) % 10 < 10; omega)).trans ?_
    exact congrArg₂ (ix2 (n0 := 1024) (n1 := 10)) (Fin.ext (by show (10 * n.val + r.val) / 10 = n.val; omega)) (Fin.ext (by show (10 * n.val + r.val) % 10 = r.val; omega))
  show (x (S1024x10.rowMajor.symm ⟨10 * n.val + r.val, _⟩), iotaInDim S1024x10 32 1 (S1024x10.rowMajor.symm ⟨10 * n.val + r.val, _⟩)) = _
  rw [e]
  rfl

/-- The reference's assignment of one neuron: the first label whose rate is the greatest. -/
theorem argmax_at (x : FVec Ideal S1024x10 .f32) (n : Fin 1024) :
    (Host.argReduce reducer_argmax_f32_i32 x (iotaInDim S1024x10 32 1) (constant S_ .f32 0xFF800000#32) (constantI S_ 32 0#32)
      reducesTo_S1024x10_S1024_d1 h_S_ (ix1 n)).2 = (best (fun r => x (ix2 n (Fin.ofNat 10 r))) 9).2 := by
  rw [Ideal.argReduce_eq_reduce2, Host.reduce2_eq_foldl_fiber, fiber_row]
  have e0 : (constant S_ .f32 0xFF800000#32 : FVec Ideal S_ .f32) (Shape.Idx.first h_S_) = (⊥ : EReal) := by
    show Ideal.ofBits .f32 0xFF800000#32 = ⊥
    simp [Ideal.ofBits, Ideal.ieee]
  rw [e0]
  have hk : ∀ k (hk : k < 10), (((List.finRange 10).take (k + 1)).map fun r => ((x (ix2 n r) : EReal), BitVec.ofNat 32 r.val)).foldl
      (reducer_argmax_f32_i32 (F := Ideal)) (⊥, 0#32) = best (fun r => x (ix2 n (Fin.ofNat 10 r))) k := by
    intro k hk
    induction k with
    | zero => exact pick_first _
    | succ k ih =>
      rw [List.take_succ_eq_append_getElem (by rw [List.length_finRange]; exact hk), List.map_append, List.foldl_append, ih (by omega)]
      rw [List.getElem_finRange]
      refine (pick _ _ _ _ ?_ ?_).trans ?_
      · show _ < (BitVec.ofNat 32 (k + 1)).toNat
        have := best_le (fun r => x (ix2 n (Fin.ofNat 10 r))) k
        rw [BitVec.toNat_ofNat]; omega
      · show (BitVec.ofNat 32 (k + 1)).toNat < 10
        rw [BitVec.toNat_ofNat]; omega
      · have e : (Fin.ofNat 10 (k + 1)) = ⟨k + 1, hk⟩ := Fin.ext (Nat.mod_eq_of_lt hk)
        conv_rhs => unfold best
        rw [e]
        rfl
  exact congrArg Prod.snd (hk 9 (by omega))

end Cert.ReferenceIdeal.Run

end
-- ==== Proof.Sums.lean ====
module

public import proofs.«01_k».proof.Proof.ResultsI

/-! What the kernel's two accumulators hold after the last point, over the extended reals: for each label the sum of the
    spikes of the examples with that label, and the count of those examples. -/

@[expose] public section

set_option maxRecDepth 16384

noncomputable section

namespace Cert.KernelIdeal.Run

open Cert.KernelIdeal.Gen
open Idealize.ShloMosaic Idealize.ShloMosaic.TcCoe Idealize.ShloMosaic.Tactic

/-- The row sums of a block: at each entry the sum over the twenty time steps. -/
theorem sOf_at (X : Vec Ideal S128x20x8x128 .f32) (r : Fin 128) (p : Fin 8) (q : Fin 128) :
    sOf X (ix3 r p q) = (∑ t : Fin 20, X (ix4 r t p q) : EReal) := by
  unfold sOf slice
  pointwise [k0_pay1, k0_pay27, k0_pay28, k0_pay29, k0_pay30, k0_pay31, k0_pay32]
  simp only [Fin.sum_univ_castSucc, Fin.sum_univ_zero, zero_add, add_assoc]
  rfl

/-- The accumulator within a block, one entry: its first contents and the rows with the label so far. -/
theorem accL_at (lb : Vec Ideal S4096 .i32) (t : ℕ) (s : Vec Ideal S128x8x128 .f32) (a : Vec Ideal S10x8x128 .f32) (k : ℕ) (l : Fin 10) (p : Fin 8) (q : Fin 128) :
    accL lb t s a k (ix3 l p q) = (a (ix3 l p q) : EReal) + ∑ j ∈ Finset.range k, if (labAt lb t j).toNat = l.val then (s (ix3 (Fin.ofNat 128 j) p q) : EReal) else 0 := by
  induction k with
  | zero => exact (add_zero (M := EReal) _).symm
  | succ k ih =>
    rw [Finset.sum_range_succ, ← add_assoc, ← ih]
    show (if l.val = (labAt lb t k).toNat then _ else _) = _
    by_cases h : (labAt lb t k).toNat = l.val
    · rw [if_pos h, if_pos h.symm]; rfl
    · rw [if_neg h, if_neg (fun e => h e.symm)]; exact (add_zero (M := EReal) _).symm

/-- The spikes of example `b`, summed over time, at one neuron. -/
def spikeSum (x : Vec Ideal S4096x20x8x128 .f32) (p : Fin 8) (q : Fin 128) (b : ℕ) : EReal := ∑ t : Fin 20, x (ix4 (Fin.ofNat 4096 b) t p q)

/-- The same over a block's rows. -/
theorem sOf_blk (x : Vec Ideal S4096x20x8x128 .f32) (t j : ℕ) (hj : j < 128) (p : Fin 8) (q : Fin 128) :
    sOf (blkOf x t) (ix3 (Fin.ofNat 128 j) p q) = spikeSum x p q (128 * t + j) := by
  rw [sOf_at]
  refine Finset.sum_congr rfl fun u _ => ?_
  show x (ix4 (Fin.ofNat 4096 (128 * t + j % 128)) u p q) = _
  rw [Nat.mod_eq_of_lt hj]

/-- A block's rows with the label, as a stretch of the examples. -/
theorem blk_sum (lb : Vec Ideal S4096 .i32) (x : Vec Ideal S4096x20x8x128 .f32) (t : ℕ) (l : Fin 10) (p : Fin 8) (q : Fin 128) :
    (∑ j ∈ Finset.range 128, if (labAt lb t j).toNat = l.val then (sOf (blkOf x t) (ix3 (Fin.ofNat 128 j) p q) : EReal) else 0)
      = ∑ j ∈ Finset.range 128, if (lb (ix1 (Fin.ofNat 4096 (128 * t + j))) : BitVec 32).toNat = l.val then spikeSum x p q (128 * t + j) else 0 := by
  refine Finset.sum_congr rfl fun j hj => ?_
  rw [sOf_blk x t j (Finset.mem_range.1 hj)]
  rfl

/-- The accumulator starts at zero. -/
theorem acc0_at (l : Fin 10) (p : Fin 8) (q : Fin 128) : (acc0 : Vec Ideal S10x8x128 .f32) (ix3 l p q) = (0 : EReal) := by
  unfold acc0
  pointwise [k0_pay26]

/-- The accumulator after point `t`, one entry: the sum over the examples so far that have the label. -/
theorem accT_at (lb : Vec Ideal S4096 .i32) (x : Vec Ideal S4096x20x8x128 .f32) (t : ℕ) (l : Fin 10) (p : Fin 8) (q : Fin 128) :
    accT lb (blkOf x) t (ix3 l p q) = (∑ b ∈ Finset.range (128 * t + 128), if (lb (ix1 (Fin.ofNat 4096 b)) : BitVec 32).toNat = l.val then spikeSum x p q b else 0 : EReal) := by
  induction t with
  | zero =>
    refine (accL_at lb 0 _ _ 128 l p q).trans ?_
    rw [acc0_at, blk_sum, zero_add]
    refine Finset.sum_congr rfl fun j _ => ?_
    rw [Nat.mul_zero, Nat.zero_add]
  | succ t ih =>
    refine (accL_at lb (t + 1) _ _ 128 l p q).trans ?_
    rw [ih, blk_sum, Nat.mul_succ]
    exact (Finset.sum_range_add _ (128 * t + 128) 128).symm

/-- After the last point: the sum over all examples with the label. -/
theorem acc_at (lb : Vec Ideal S4096 .i32) (x : Vec Ideal S4096x20x8x128 .f32) (l : Fin 10) (p : Fin 8) (q : Fin 128) :
    accT lb (blkOf x) 31 (ix3 l p q) = (∑ b : Fin 4096, if (lb (ix1 b) : BitVec 32).toNat = l.val then ∑ t : Fin 20, (x (ix4 b t p q) : EReal) else 0) := by
  rw [accT_at]
  refine (Finset.sum_range _).trans (Finset.sum_congr rfl fun b _ => ?_)
  have e : Fin.ofNat 4096 b.val = b := Fin.ext (Nat.mod_eq_of_lt b.isLt)
  unfold spikeSum
  rw [e]

/-- How many examples have label `l`. -/
def countOf (lb : Vec Ideal S4096 .i32) (l : ℕ) : ℕ := ∑ b : Fin 4096, if (lb (ix1 b) : BitVec 32).toNat = l then 1 else 0

/-- The counts within a block. -/
theorem cntL_at (lb : Vec Ideal S4096 .i32) (t : ℕ) (n : Vec Ideal S10 .i32) (k : ℕ) (l : Fin 10) :
    (cntL lb t n k (ix1 l) : BitVec 32) = (n (ix1 l) : BitVec 32) + BitVec.ofNat 32 (∑ j ∈ Finset.range k, if (labAt lb t j).toNat = l.val then 1 else 0) := by
  induction k with
  | zero => exact (BitVec.add_zero _).symm
  | succ k ih =>
    rw [Finset.sum_range_succ, BitVec.ofNat_add, ← BitVec.add_assoc, ← ih]
    show (if l.val = (labAt lb t k).toNat then _ else _) = _
    by_cases h : (labAt lb t k).toNat = l.val
    · rw [if_pos h, if_pos h.symm]
    · rw [if_neg h, if_neg (fun e => h e.symm)]; exact (BitVec.add_zero _).symm

/-- The counts after point `t`. -/
theorem cntT_at (lb : Vec Ideal S4096 .i32) (t : ℕ) (l : Fin 10) :
    (cntT lb t (ix1 l) : BitVec 32) = BitVec.ofNat 32 (∑ b ∈ Finset.range (128 * t + 128), if (lb (ix1 (Fin.ofNat 4096 b)) : BitVec 32).toNat = l.val then 1 else 0) := by
  induction t with
  | zero =>
    refine (cntL_at lb 0 _ 128 l).trans ?_
    refine (BitVec.zero_add _).trans (congrArg (BitVec.ofNat 32) (Finset.sum_congr rfl fun j _ => ?_))
    unfold labAt
    rw [Nat.mul_zero, Nat.zero_add]
  | succ t ih =>
    refine (cntL_at lb (t + 1) _ 128 l).trans ?_
    rw [ih, ← BitVec.ofNat_add, Nat.mul_succ]
    unfold labAt
    rw [Nat.mul_succ]
    exact congrArg (BitVec.ofNat 32) (Finset.sum_range_add _ (128 * t + 128) 128).symm

/-- After the last point: the count over all examples. -/
theorem cnt_at (lb : Vec Ideal S4096 .i32) (l : Fin 10) : (cntT lb 31 (ix1 l) : BitVec 32) = BitVec.ofNat 32 (countOf lb l.val) := by
  rw [cntT_at]
  refine congrArg (BitVec.ofNat 32) ((Finset.sum_range _).trans (Finset.sum_congr rfl fun b _ => ?_))
  have e : Fin.ofNat 4096 b.val = b := Fin.ext (Nat.mod_eq_of_lt b.isLt)
  rw [e]

end Cert.KernelIdeal.Run

end
-- ==== Proof.Equal.lean ====
module

public import proofs.«01_k».proof.Proof.Argmax
public import proofs.«01_k».proof.Proof.Sums
public import proofs.«01_k».proof.Proof.Frames

/-! The kernel's two results are the reference's, over the extended reals. -/

@[expose] public section

set_option maxRecDepth 16384

noncomputable section

namespace Cert.Equal

open Idealize.ShloMosaic Idealize.ShloMosaic.TcCoe Idealize.ShloMosaic.Tactic Idealize.SL.Sem
open Idealize.ShloMosaic.StableHlo
open Cert.ReferenceIdeal.Run (best opsA opsB opsC opsD)

/-- The mean of a label: the sum divided by the count, zero when the count is not positive. -/
def meanOf (c : BitVec 32) (s : EReal) : EReal :=
  if 0 < (FloatOps.sitofp .f32 c : Ideal .f32) then Ideal.div s (max (FloatOps.sitofp .f32 c : Ideal .f32) 1) else 0

section Kernel
open Cert.KernelIdeal Cert.KernelIdeal.Gen Cert.KernelIdeal.Run

/-- A count is positive as a number just when it is as a word. -/
theorem count_pos (c : BitVec 32) : 0 < (FloatOps.sitofp .f32 c : Ideal .f32) ↔ Scalar.cmpi .sgt c 0#32 = 1#1 := by
  show (0 : EReal) < ((c.toInt : ℝ) : EReal) ↔ BitVec.ofBool ((0#32 : BitVec 32).slt c) = 1#1
  rw [show (0 : EReal) = ((0 : ℝ) : EReal) from rfl, EReal.coe_lt_coe_iff, Int.cast_pos]
  have e : (0#32 : BitVec 32).slt c = decide (0 < c.toInt) := by
    rw [BitVec.slt]; rfl
  rw [e]
  by_cases h : 0 < c.toInt
  · rw [decide_eq_true h]; exact ⟨fun _ => rfl, fun _ => h⟩
  · rw [decide_eq_false h]; exact ⟨fun g => absurd g h, fun g => absurd g (by decide)⟩

/-- The kernel's mean of a label at one neuron. -/
theorem mean_at (n : Vec Ideal S10 .i32) (a : Vec Ideal S10x8x128 .f32) (l : ℕ) (p : Fin 8) (q : Fin 128) :
    meanRow n a l (ix2 p q) = meanOf (n (ix1 (Fin.ofNat 10 l))) (a (ix3 (Fin.ofNat 10 l) p q)) := by
  unfold meanRow meanOf
  rw [if_congr (count_pos _) rfl rfl]
  generalize n (ix1 (Fin.ofNat 10 l)) = c
  pointwise [k0_pay4, rowOf]
  rfl

/-- The kernel's comparisons, label after label: the values held and their labels. -/
def held (v : ℕ → FVec Ideal S8x128 .f32) : ℕ → FVec Ideal S8x128 .f32 × IVec S8x128 32
  | 0 => (v 0, broadcast S8x128 0#32)
  | k + 1 => (select (cmpf .ogt (v (k + 1)) (held v k).1) (v (k + 1)) (held v k).1,
      select (cmpf .ogt (v (k + 1)) (held v k).1) (broadcast S8x128 (BitVec.ofNat 32 (k + 1))) (held v k).2)

/-- At one entry they hold the greatest value and the first label that has it. -/
theorem held_at (v : ℕ → FVec Ideal S8x128 .f32) (y : S8x128.Idx) (k : ℕ) :
    ((held v k).1 y, (held v k).2 y) = best (fun r => v r y) k := by
  induction k with
  | zero => rfl
  | succ k ih =>
    have e1 : (held v k).1 y = (best (fun r => v r y) k).1 := congrArg Prod.fst ih
    have e2 : (held v k).2 y = (best (fun r => v r y) k).2 := congrArg Prod.snd ih
    show (Scalar.select (BitVec.ofBool (decide ((held v k).1 y < v (k + 1) y))) (v (k + 1) y) ((held v k).1 y),
      Scalar.select (BitVec.ofBool (decide ((held v k).1 y < v (k + 1) y))) (BitVec.ofNat 32 (k + 1)) ((held v k).2 y)) = _
    rw [e1, e2]
    conv_rhs => unfold best
    by_cases h : (best (fun r => v r y) k).1 < v (k + 1) y
    · rw [decide_eq_true h, if_pos h]; rfl
    · rw [decide_eq_false h, if_neg h]; rfl

/-- The stored assignments are those labels after the last comparison. -/
theorem assign_held (n : Vec Ideal S10 .i32) (a : Vec Ideal S10x8x128 .f32) : gOut n a = (held (meanRow n a) 9).2 := by
  chain_rfl

/-- The kernel's assignment at one neuron: the first label whose mean is the greatest. -/
theorem assign_at (n : Vec Ideal S10 .i32) (a : Vec Ideal S10x8x128 .f32) (y : S8x128.Idx) :
    (gOut n a y : BitVec 32) = (best (fun r => meanRow n a r y) 9).2 := by
  rw [assign_held]
  exact congrArg Prod.snd (held_at (meanRow n a) y 9)
end Kernel

/-- The reference's rate at one neuron and label. -/
theorem rate_at (V : Valuation Cert.ReferenceIdeal.τ Cert.ReferenceIdeal.sig (Elt Ideal)) (n : Fin 1024) (l : Fin 10) :
    (after opsC V (Proc.devRef .tc Cert.ReferenceIdeal.main_v28) : FVec Ideal ⟨2, ![1024, 10]⟩ .f32) (ix2 n l)
      = meanOf ((V (Proc.devRef .tc Cert.ReferenceIdeal.main_v13) : IVec ⟨1, ![10]⟩ 32) (ix1 l))
          ((V (Proc.devRef .tc Cert.ReferenceIdeal.main_v3) : FVec Ideal ⟨2, ![10, 1024]⟩ .f32) (ix2 l n)) := by
  after_reads_at
  unfold meanOf
  congr 1
  show Ideal.ofBits .f32 0x00000000#32 = 0
  exact Ideal.ofBits_zero_f32

/-- The spikes of neuron `n`, summed over time and over the examples with label `l`. -/
def sumOf (x : FVec Ideal ⟨3, ![4096, 20, 1024]⟩ .f32) (lb : IVec ⟨1, ![4096]⟩ 32) (n : Fin 1024) (l : Fin 10) : EReal :=
  ∑ b : Fin 4096, if (lb (ix1 b)).toNat = l.val then ∑ t : Fin 20, (x (ix3 b t n) : EReal) else 0

/-- The rate of neuron `n` for label `l`: the mean, over the examples with that label, of the neuron's spikes summed over time. -/
def rate (x : FVec Ideal ⟨3, ![4096, 20, 1024]⟩ .f32) (lb : IVec ⟨1, ![4096]⟩ 32) (n : Fin 1024) (l : Fin 10) : EReal :=
  meanOf (BitVec.ofNat 32 (∑ b : Fin 4096, if (lb (ix1 b)).toNat = l.val then 1 else 0)) (sumOf x lb n l)

/-- All rates. -/
def rates (x : FVec Ideal ⟨3, ![4096, 20, 1024]⟩ .f32) (lb : IVec ⟨1, ![4096]⟩ 32) : FVec Ideal ⟨2, ![1024, 10]⟩ .f32 :=
  fun j => rate x lb (j 0) (j 1)

/-- All assignments: each neuron's first label of the greatest rate. -/
def assigns (x : FVec Ideal ⟨3, ![4096, 20, 1024]⟩ .f32) (lb : IVec ⟨1, ![4096]⟩ 32) : IVec ⟨1, ![1024]⟩ 32 :=
  fun j => (best (fun r => rate x lb (j 0) (Fin.ofNat 10 r)) 9).2

section Kernel
open Cert.KernelIdeal Cert.KernelIdeal.Gen Cert.KernelIdeal.Run

variable (m : (ℓ : Loc Cert.KernelIdeal.nD Cert.KernelIdeal.τ Cert.KernelIdeal.sig) → Buf (Elt Ideal) ℓ) (c : Dev Cert.KernelIdeal.nD)

/-- The mean the kernel forms for row `l` at the place of neuron `n` is that neuron's rate. -/
theorem kernel_rate (n : Fin 1024) (l : ℕ) :
    meanRow (cntM m 31) (accM m c 31) l (ix2 (Fin.ofNat 8 (n.val / 128)) (Fin.ofNat 128 n.val))
      = rate (m ((c : Thread nD τ).loc main_arg0)) (m ((c : Thread nD τ).loc main_arg1)) n (Fin.ofNat 10 l) := by
  refine (mean_at _ _ _ _ _).trans ?_
  unfold rate sumOf accM cntM
  rw [acc_at, cnt_at, lbl_eq m c]
  unfold countOf
  refine congrArg (meanOf _) (Finset.sum_congr rfl fun b _ => ?_)
  refine if_congr Iff.rfl (Finset.sum_congr rfl fun t _ => ?_) rfl
  refine (spikes_at m c b t _ _).trans ?_
  refine congrArg (fun k => (m ((c : Thread nD τ).loc main_arg0) : FVec Ideal ⟨3, ![4096, 20, 1024]⟩ .f32) (ix3 b t k)) (Fin.ext ?_)
  have hn := n.isLt
  show (128 * (n.val / 128 % 8) + n.val % 128) % 1024 = n.val
  omega

/-- The kernel's second result is the rates. -/
theorem kernel_rates : ratesOf (cntM m 31) (accM m c 31) = rates (m ((c : Thread nD τ).loc main_arg0)) (m ((c : Thread nD τ).loc main_arg1)) := by
  funext (j : (⟨2, ![1024, 10]⟩ : Shape).Idx)
  have hl : Fin.ofNat 10 (j 1).val = j 1 := Fin.ext (Nat.mod_eq_of_lt (j 1).isLt)
  refine (kernel_rate m c (j 0) (j 1).val).trans ?_
  rw [hl]
  rfl

/-- The kernel's first result is the assignments. -/
theorem kernel_assigns : assignOf (cntM m 31) (accM m c 31) = assigns (m ((c : Thread nD τ).loc main_arg0)) (m ((c : Thread nD τ).loc main_arg1)) := by
  funext (j : (⟨1, ![1024]⟩ : Shape).Idx)
  refine (assign_at _ _ _).trans ?_
  refine congrArg (fun f => (best f 9).2) (funext fun r => ?_)
  exact kernel_rate m c (j 0) r
end Kernel

section Reference
open Cert.ReferenceIdeal Cert.ReferenceIdeal.Gen Cert.ReferenceIdeal.Run

variable (V : Valuation τ sig (Elt Ideal))

/-- The sums by label. -/
theorem ref_sums (l : Fin 10) (n : Fin 1024) :
    (after opsB (after opsA V) (Proc.devRef .tc main_v3) : FVec Ideal ⟨2, ![10, 1024]⟩ .f32) (ix2 l n)
      = sumOf (V (Proc.devRef .tc main_arg0)) (V (Proc.devRef .tc main_arg1)) n l := by
  have e : after opsB (after opsA V) (Proc.devRef .tc main_v3) = after opsA V (Proc.devRef .tc main_v3) := by
    generalize after opsA V = W
    after_results
  rw [e]
  after_reads_at
  exact sums_at _ _ l n

/-- The counts by label. -/
theorem ref_counts (hlab : ∀ y, ((V (Proc.devRef .tc main_arg1) : IVec ⟨1, ![4096]⟩ 32) y).toNat < 10) (l : Fin 10) :
    (after opsB (after opsA V) (Proc.devRef .tc main_v13) : IVec ⟨1, ![10]⟩ 32) (ix1 l)
      = BitVec.ofNat 32 (∑ b : Fin 4096, if ((V (Proc.devRef .tc main_arg1) : IVec ⟨1, ![4096]⟩ 32) (ix1 b)).toNat = l.val then 1 else 0) := by
  have e : after opsA V (Proc.devRef .tc main_arg1) = V (Proc.devRef .tc main_arg1) := by
    after_results
  rw [← e] at hlab ⊢
  generalize after opsA V = W at hlab ⊢
  after_reads_at
  refine (counts_at _ l).trans (congrArg (BitVec.ofNat 32) (Finset.sum_congr rfl fun b _ => ?_))
  rw [words_at _ hlab b]

/-- The reference's rates. -/
theorem ref_rates (hlab : ∀ y, ((V (Proc.devRef .tc main_arg1) : IVec ⟨1, ![4096]⟩ 32) y).toNat < 10) :
    (after opsC (after opsB (after opsA V)) (Proc.devRef .tc main_v28) : FVec Ideal ⟨2, ![1024, 10]⟩ .f32)
      = rates (V (Proc.devRef .tc main_arg0)) (V (Proc.devRef .tc main_arg1)) := by
  funext j
  obtain ⟨n, l, rfl⟩ : ∃ n l, j = ix2 (n0 := 1024) (n1 := 10) n l := ⟨j 0, j 1, (ix2_eta j).symm⟩
  refine (rate_at _ n l).trans ?_
  rw [ref_sums, ref_counts V hlab]
  rfl

/-- What the reference's second result ends at. -/
theorem ref_second (hlab : ∀ y, ((V (Proc.devRef .tc main_arg1) : IVec ⟨1, ![4096]⟩ 32) y).toNat < 10) :
    (after opsD (after opsC (after opsB (after opsA V))) (Proc.devRef .tc main_v28) : FVec Ideal ⟨2, ![1024, 10]⟩ .f32)
      = rates (V (Proc.devRef .tc main_arg0)) (V (Proc.devRef .tc main_arg1)) := by
  rw [← ref_rates V hlab]
  generalize after opsC (after opsB (after opsA V)) = W
  after_results

/-- What the reference's first result ends at. -/
theorem ref_first (hlab : ∀ y, ((V (Proc.devRef .tc main_arg1) : IVec ⟨1, ![4096]⟩ 32) y).toNat < 10) :
    (after opsD (after opsC (after opsB (after opsA V))) (Proc.devRef .tc main_v29) : IVec ⟨1, ![1024]⟩ 32)
      = assigns (V (Proc.devRef .tc main_arg0)) (V (Proc.devRef .tc main_arg1)) := by
  have h := ref_rates V hlab
  generalize after opsC (after opsB (after opsA V)) = W at h ⊢
  funext j
  obtain ⟨n, rfl⟩ : ∃ n, j = ix1 (n0 := 1024) n := ⟨j 0, (ix1_eta j).symm⟩
  after_reads_at
  refine (argmax_at _ n).trans ?_
  rw [h]
  rfl
end Reference

/-- From equal arguments with labels in range, the kernel and the reference end with equal assignments and equal rates. -/
theorem equal : Cert.algebraic_KernelIdeal_ReferenceIdeal := by
  intro m g m' g' hpre harg
  have hlab := Cert.Frames.lbl_lt_ideal m hpre
  refine ⟨fun c => assigns (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => rates (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run _ _ _).mono (fun r h c => ?_) (Cert.KernelIdeal.Run.value m g hlab)
    obtain ⟨h0, h1, h2, h3⟩ := h c
    exact ⟨h0.trans (kernel_assigns m c), h1.trans (kernel_rates m c), h2, h3⟩
  · refine (θ_run _ _ _).mono (fun r h c => ?_) (Cert.ReferenceIdeal.Run.run m' g')
    obtain ⟨e0, e1⟩ := harg c
    have hl : ∀ y, ((launchContents m' c (Proc.devRef .tc Cert.ReferenceIdeal.main_arg1) : IVec ⟨1, ![4096]⟩ 32) y).toNat < 10 := by
      intro y
      have e : (launchContents m' c (Proc.devRef .tc Cert.ReferenceIdeal.main_arg1) : IVec ⟨1, ![4096]⟩ 32) = Cert.KernelIdeal.Run.lbl m :=
        Eq.trans e1 (Cert.KernelIdeal.Run.lbl_eq m c).symm
      rw [e]
      exact hlab y
    refine ⟨(h.1 c _).trans ((ref_first _ hl).trans (congrArg₂ assigns e0 e1)), (h.1 c _).trans ((ref_second _ hl).trans (congrArg₂ rates e0 e1)),
      (h.1 c _).trans (Cert.ReferenceIdeal.Run.keeps_arg0 _), (h.1 c _).trans (Cert.ReferenceIdeal.Run.keeps_arg1 _)⟩

end Cert.Equal

end
-- ==== Proof.lean ====
/- Every claim of this certificate: the three frames, the preservation of the kernel by its ideal reading, and the
   equality of the kernel's two results with the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_labels_in_range
public import proofs.«01_k».proof.Proof.Frames
public import proofs.«01_k».proof.Proof.Equal

@[expose] public section

noncomputable section

namespace Cert.Proof

open Idealize.ShloMosaic Idealize.SL.Sem

/-- All the claims of this certificate hold. -/
theorem claim : Cert.Claim := ⟨Cert.Kernel.Gen.facts, Cert.KernelIdeal.Gen.facts, Cert.ReferenceIdeal.Gen.facts, Cert.Pre_labels_in_range.Gen.facts,
  Cert.Frames.kernel, Cert.Frames.kernel_ideal, Cert.Frames.reference, Cert.Frames.reference_pre, trivial, Cert.Equal.equal⟩

end Cert.Proof

end
